-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_points_nonzero_rows [hPre_sorted_points_nonzero_rows : Cert.Pre_sorted_points_nonzero_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_points_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_points_nonzero_rows [hPre_sorted_points_nonzero_rows : Cert.Pre_sorted_points_nonzero_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_points_nonzero_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sorted_points_nonzero_rows [hKernelIdeal : Cert.KernelIdeal.Facts] [hPre_sorted_points_nonzero_rows : Cert.Pre_sorted_points_nonzero_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_points_nonzero_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_points_nonzero_rows [hReferenceIdeal : Cert.ReferenceIdeal.Facts] [hPre_sorted_points_nonzero_rows : Cert.Pre_sorted_points_nonzero_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_points_nonzero_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sorted_points_nonzero_rows [hKernelIdeal : Cert.KernelIdeal.Facts] [hReferenceIdeal : Cert.ReferenceIdeal.Facts] [hPre_sorted_points_nonzero_rows : Cert.Pre_sorted_points_nonzero_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_points_nonzero_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_points_nonzero_rows : Cert.Pre_sorted_points_nonzero_rows.Facts),
    quiescent_Kernel (hKernel := hKernel)
    ∧ quiescent_KernelIdeal (hKernelIdeal := hKernelIdeal)
    ∧ quiescent_KernelIdeal_pre_sorted_points_nonzero_rows (hKernelIdeal := hKernelIdeal) (hPre_sorted_points_nonzero_rows := hPre_sorted_points_nonzero_rows)
    ∧ quiescent_ReferenceIdeal (hReferenceIdeal := hReferenceIdeal)
    ∧ quiescent_ReferenceIdeal_pre_sorted_points_nonzero_rows (hReferenceIdeal := hReferenceIdeal) (hPre_sorted_points_nonzero_rows := hPre_sorted_points_nonzero_rows)
    ∧ preserves_Kernel_KernelIdeal
    ∧ algebraic_KernelIdeal_ReferenceIdeal_pre_sorted_points_nonzero_rows (hKernelIdeal := hKernelIdeal) (hReferenceIdeal := hReferenceIdeal) (hPre_sorted_points_nonzero_rows := hPre_sorted_points_nonzero_rows)
-- ==== Pre_sorted_points_nonzero_rows.lean ====
abbrev S16x2048x256 : Shape := ⟨3, ![16, 2048, 256]⟩
abbrev S2048x256 : Shape := ⟨2, ![2048, 256]⟩
abbrev S256x256 : Shape := ⟨2, ![256, 256]⟩
abbrev S256x2048 : Shape := ⟨2, ![256, 2048]⟩
abbrev S2047x256 : Shape := ⟨2, ![2047, 256]⟩
abbrev S_ : Shape := ⟨0, ![]⟩
abbrev S256 : Shape := ⟨1, ![256]⟩

class Facts : Prop where
  slices_S2048x256_S2047x256_0_0 : S2048x256.Slices ![0, 0] S2047x256
  slices_S2048x256_S2047x256_1_0 : S2048x256.Slices ![1, 0] S2047x256
  reducesTo_S2047x256_S_d0_1 : S2047x256.ReducesTo [0, 1] S_
  h_S_ : 0 < S_.numel
  reducesTo_S256x256_S256_d1 : S256x256.ReducesTo [1] S256
  bcast_S_S256 : S_.BroadcastsInDim S256 (![] : Fin 0 → Fin S256.rank)
  reducesTo_S256_S_d0 : S256.ReducesTo [0] S_

variable [Facts]

def fn {F : FTy → Type} [FloatOps F] (main_arg0 : FVec F S16x2048x256 .f32) (main_arg1 : FVec F S2048x256 .f32) (main_arg2 : FVec F S256x256 .f32) (main_arg3 : FVec F S256x2048 .f32) : IVec S_ 1 :=
  let main_v0 : FVec F S2047x256 .f32 := (extractStridedSlice S2047x256 ![0, 0] · slices_S2048x256_S2047x256_0_0) main_arg1
  let main_v1 : FVec F S2047x256 .f32 := (extractStridedSlice S2047x256 ![1, 0] · slices_S2048x256_S2047x256_1_0) main_arg1
  let main_v2 : IVec S2047x256 1 := cmpf .ole main_v0 main_v1
  let main_c : IVec S_ 1 := constantI S_ 1 1#1
  let main_v3 : IVec S_ 1 := (fun x v => Host.reduce IntOp.andi x v reducesTo_S2047x256_S_d0_1 h_S_) main_v2 main_c
  let main_v4 : FVec F S256x256 .f32 := mulf main_arg2 main_arg2
  let main_cst : FVec F S_ .f32 := constant S_ .f32 0x00000000#32
  let main_v5 : FVec F S256 .f32 := (fun x v => Host.reduceAdd x v reducesTo_S256x256_S256_d1 h_S_) main_v4 main_cst
  let main_cst_0 : FVec F S_ .f32 := constant S_ .f32 0x00000000#32
  let main_v6 : FVec F S256 .f32 := broadcastInDim S256 ![] bcast_S_S256 main_cst_0
  let main_v7 : IVec S256 1 := cmpf .une main_v5 main_v6
  let main_c_1 : IVec S_ 1 := constantI S_ 1 1#1
  let main_v8 : IVec S_ 1 := (fun x v => Host.reduce IntOp.andi x v reducesTo_S256_S_d0 h_S_) main_v7 main_c_1
  let main_v9 : IVec S_ 1 := andi main_v3 main_v8
  main_v9
-- ==== Kernel.lean ====
abbrev S16x2048x256 : Shape := ⟨3, ![16, 2048, 256]⟩
abbrev S2048x256 : Shape := ⟨2, ![2048, 256]⟩
abbrev S256x256 : Shape := ⟨2, ![256, 256]⟩
abbrev S256x2048 : Shape := ⟨2, ![256, 2048]⟩
abbrev S16x1x256 : Shape := ⟨3, ![16, 1, 256]⟩
abbrev S16x256 : Shape := ⟨2, ![16, 256]⟩
abbrev S1x2048x256 : Shape := ⟨3, ![1, 2048, 256]⟩
abbrev S1x1x256 : Shape := ⟨3, ![1, 1, 256]⟩
abbrev S256 : Shape := ⟨1, ![256]⟩
abbrev S256x1 : Shape := ⟨2, ![256, 1]⟩
abbrev S128x1 : Shape := ⟨2, ![128, 1]⟩
abbrev S128x256 : Shape := ⟨2, ![128, 256]⟩
abbrev S127x256 : Shape := ⟨2, ![127, 256]⟩
abbrev S1x256 : Shape := ⟨2, ![1, 256]⟩
abbrev S126x256 : Shape := ⟨2, ![126, 256]⟩
abbrev S2x256 : Shape := ⟨2, ![2, 256]⟩
abbrev S124x256 : Shape := ⟨2, ![124, 256]⟩
abbrev S4x256 : Shape := ⟨2, ![4, 256]⟩
abbrev S8x256 : Shape := ⟨2, ![8, 256]⟩
abbrev S32x256 : Shape := ⟨2, ![32, 256]⟩
abbrev S64x256 : Shape := ⟨2, ![64, 256]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x256, .f32⟩
  | .hbm, ⟨1, _⟩ => ⟨S2048x256, .f32⟩
  | .hbm, ⟨2, _⟩ => ⟨S256x256, .f32⟩
  | .hbm, ⟨3, _⟩ => ⟨S256x2048, .f32⟩
  | .hbm, ⟨4, _⟩ => ⟨S2048x256, .f32⟩
  | .hbm, ⟨5, _⟩ => ⟨S16x1x256, .f32⟩
  | .hbm, ⟨6, _⟩ => ⟨S16x256, .f32⟩
  | .local _ .vmem, ⟨0, _⟩ => ⟨S1x2048x256, .f32⟩
  | .local _ .vmem, ⟨1, _⟩ => ⟨S1x2048x256, .f32⟩
  | .local _ .vmem, ⟨2, _⟩ => ⟨S2048x256, .f32⟩
  | .local _ .vmem, ⟨3, _⟩ => ⟨S256x256, .f32⟩
  | .local _ .vmem, ⟨4, _⟩ => ⟨S2048x256, .f32⟩
  | .local _ .vmem, ⟨5, _⟩ => ⟨S1x1x256, .f32⟩
  | .local _ .vmem, ⟨6, _⟩ => ⟨S1x1x256, .f32⟩
  | .local _ .vmem, ⟨7, _⟩ => ⟨S2048x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_50 : BitVec 32 := 0#32
  let c16_i32_51 : BitVec 32 := 16#32
  let v116 : BitVec 32 := Scalar.addi c0_i32_50 c16_i32_51
  let c1_i32_52 : BitVec 32 := 1#32
  ⟨c0_i32_50, v116, c1_i32_52⟩
def k0_off1 (k0_t1 : Fin k0_t1_loop.trips) : Fin 2 → Nat :=
  let c0_i32_50 : BitVec 32 := 0#32
  let c1_i32_52 : BitVec 32 := 1#32
  let arg7 : BitVec 32 := Scf.iv c0_i32_50 c1_i32_52 k0_t1
  let c128_i32 : BitVec 32 := 128#32
  let v152 : BitVec 32 := Scalar.muli arg7 c128_i32
  let v153 : Index := Scalar.indexCast v152
  let c0_164 : Index := 0#32
  ![v153.toNat, 0]
@[reducible] def k0_t2_loop : Scf.Loop 32 :=
  let c0_i32_54 : BitVec 32 := 0#32
  let c8_i32_55 : BitVec 32 := 8#32
  let v117 : BitVec 32 := Scalar.addi c0_i32_54 c8_i32_55
  let c1_i32_56 : BitVec 32 := 1#32
  ⟨c0_i32_54, v117, c1_i32_56⟩
def k0_off2 (k0_t2 : Fin k0_t2_loop.trips) : Fin 2 → Nat :=
  let c0_i32_54 : BitVec 32 := 0#32
  let c1_i32_56 : BitVec 32 := 1#32
  let arg7 : BitVec 32 := Scf.iv c0_i32_54 c1_i32_56 k0_t2
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c2_i32_171 : BitVec 32 := 2#32
  let v169 : BitVec 32 := Scalar.muli v168 c2_i32_171
  let c1_i32_172 : BitVec 32 := 1#32
  let v170 : BitVec 32 := Scalar.muli v169 c1_i32_172
  let c1_i32_173 : BitVec 32 := 1#32
  let c0_i32_174 : BitVec 32 := 0#32
  let v171 : BitVec 1 := Scalar.cmpi .eq c1_i32_173 c0_i32_174
  let c1_i32_175 : BitVec 32 := 1#32
  let v172 : BitVec 32 := Scalar.select v171 c1_i32_175 c1_i32_173
  let v173 : BitVec 32 := Scalar.remsi arg7 v172
  let c0_i32_177 : BitVec 32 := 0#32
  let v175 : BitVec 1 := Scalar.cmpi .slt v173 c0_i32_177
  let c0_i32_178 : BitVec 32 := 0#32
  let v176 : BitVec 1 := Scalar.cmpi .slt v172 c0_i32_178
  let v177 : BitVec 1 := Scalar.xori v175 v176
  let c0_i32_176 : BitVec 32 := 0#32
  let v174 : BitVec 1 := Scalar.cmpi .ne v173 c0_i32_176
  let v178 : BitVec 1 := Scalar.andi v177 v174
  let v179 : BitVec 32 := Scalar.addi v173 v172
  let v180 : BitVec 32 := Scalar.select v178 v179 v173
  let v181 : BitVec 32 := Scalar.addi v170 v180
  let c0_i32_179 : BitVec 32 := 0#32
  let v182 : BitVec 32 := Scalar.addi v181 c0_i32_179
  let c128_i32 : BitVec 32 := 128#32
  let v183 : BitVec 32 := Scalar.muli v182 c128_i32
  let v184 : Index := Scalar.indexCast v183
  let c0_180 : Index := 0#32
  ![v184.toNat, 0]
@[reducible] def k0_t3_loop : Scf.Loop 32 :=
  let c0_i32_58 : BitVec 32 := 0#32
  let c8_i32_59 : BitVec 32 := 8#32
  let v118 : BitVec 32 := Scalar.addi c0_i32_58 c8_i32_59
  let c1_i32_60 : BitVec 32 := 1#32
  ⟨c0_i32_58, v118, c1_i32_60⟩
def k0_off3 (k0_t3 : Fin k0_t3_loop.trips) : Fin 2 → Nat :=
  let c0_i32_58 : BitVec 32 := 0#32
  let c1_i32_60 : BitVec 32 := 1#32
  let arg7 : BitVec 32 := Scf.iv c0_i32_58 c1_i32_60 k0_t3
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c2_i32_171 : BitVec 32 := 2#32
  let v169 : BitVec 32 := Scalar.muli v168 c2_i32_171
  let c1_i32_172 : BitVec 32 := 1#32
  let v170 : BitVec 32 := Scalar.muli v169 c1_i32_172
  let c1_i32_173 : BitVec 32 := 1#32
  let c0_i32_174 : BitVec 32 := 0#32
  let v171 : BitVec 1 := Scalar.cmpi .eq c1_i32_173 c0_i32_174
  let c1_i32_175 : BitVec 32 := 1#32
  let v172 : BitVec 32 := Scalar.select v171 c1_i32_175 c1_i32_173
  let v173 : BitVec 32 := Scalar.remsi arg7 v172
  let c0_i32_177 : BitVec 32 := 0#32
  let v175 : BitVec 1 := Scalar.cmpi .slt v173 c0_i32_177
  let c0_i32_178 : BitVec 32 := 0#32
  let v176 : BitVec 1 := Scalar.cmpi .slt v172 c0_i32_178
  let v177 : BitVec 1 := Scalar.xori v175 v176
  let c0_i32_176 : BitVec 32 := 0#32
  let v174 : BitVec 1 := Scalar.cmpi .ne v173 c0_i32_176
  let v178 : BitVec 1 := Scalar.andi v177 v174
  let v179 : BitVec 32 := Scalar.addi v173 v172
  let v180 : BitVec 32 := Scalar.select v178 v179 v173
  let v181 : BitVec 32 := Scalar.addi v170 v180
  let c1_i32_179 : BitVec 32 := 1#32
  let v182 : BitVec 32 := Scalar.addi v181 c1_i32_179
  let c128_i32 : BitVec 32 := 128#32
  let v183 : BitVec 32 := Scalar.muli v182 c128_i32
  let v184 : Index := Scalar.indexCast v183
  let c0_180 : Index := 0#32
  ![v184.toNat, 0]
@[reducible] def k0_t4_loop : Scf.Loop 32 :=
  let c0_i32_62 : BitVec 32 := 0#32
  let c4_i32_63 : BitVec 32 := 4#32
  let v119 : BitVec 32 := Scalar.addi c0_i32_62 c4_i32_63
  let c1_i32_64 : BitVec 32 := 1#32
  ⟨c0_i32_62, v119, c1_i32_64⟩
def k0_off4 (k0_t4 : Fin k0_t4_loop.trips) : Fin 2 → Nat :=
  let c0_i32_62 : BitVec 32 := 0#32
  let c1_i32_64 : BitVec 32 := 1#32
  let arg7 : BitVec 32 := Scf.iv c0_i32_62 c1_i32_64 k0_t4
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let v214 : Index := Scalar.indexCast v213
  let c0_195 : Index := 0#32
  ![v214.toNat, 0]
def k0_off5 (k0_t4 : Fin k0_t4_loop.trips) : Fin 2 → Nat :=
  let c0_i32_62 : BitVec 32 := 0#32
  let c1_i32_64 : BitVec 32 := 1#32
  let arg7 : BitVec 32 := Scf.iv c0_i32_62 c1_i32_64 k0_t4
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let c128_i32_196 : BitVec 32 := 128#32
  let v216 : BitVec 32 := Scalar.addi v213 c128_i32_196
  let v217 : Index := Scalar.indexCast v216
  let c0_197 : Index := 0#32
  ![v217.toNat, 0]
@[reducible] def k0_t5_loop : Scf.Loop 32 :=
  let c0_i32_66 : BitVec 32 := 0#32
  let c4_i32_67 : BitVec 32 := 4#32
  let v120 : BitVec 32 := Scalar.addi c0_i32_66 c4_i32_67
  let c1_i32_68 : BitVec 32 := 1#32
  ⟨c0_i32_66, v120, c1_i32_68⟩
def k0_off6 (k0_t5 : Fin k0_t5_loop.trips) : Fin 2 → Nat :=
  let c0_i32_66 : BitVec 32 := 0#32
  let c1_i32_68 : BitVec 32 := 1#32
  let arg7 : BitVec 32 := Scf.iv c0_i32_66 c1_i32_68 k0_t5
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c1_i32_192 : BitVec 32 := 1#32
  let v209 : BitVec 32 := Scalar.addi v208 c1_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let v214 : Index := Scalar.indexCast v213
  let c0_195 : Index := 0#32
  ![v214.toNat, 0]
def k0_off7 (k0_t5 : Fin k0_t5_loop.trips) : Fin 2 → Nat :=
  let c0_i32_66 : BitVec 32 := 0#32
  let c1_i32_68 : BitVec 32 := 1#32
  let arg7 : BitVec 32 := Scf.iv c0_i32_66 c1_i32_68 k0_t5
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c1_i32_192 : BitVec 32 := 1#32
  let v209 : BitVec 32 := Scalar.addi v208 c1_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let c128_i32_196 : BitVec 32 := 128#32
  let v216 : BitVec 32 := Scalar.addi v213 c128_i32_196
  let v217 : Index := Scalar.indexCast v216
  let c0_197 : Index := 0#32
  ![v217.toNat, 0]
@[reducible] def k0_t6_loop : Scf.Loop 32 :=
  let c0_i32_70 : BitVec 32 := 0#32
  let c8_i32_71 : BitVec 32 := 8#32
  let v121 : BitVec 32 := Scalar.addi c0_i32_70 c8_i32_71
  let c1_i32_72 : BitVec 32 := 1#32
  ⟨c0_i32_70, v121, c1_i32_72⟩
def k0_off8 (k0_t6 : Fin k0_t6_loop.trips) : Fin 2 → Nat :=
  let c0_i32_70 : BitVec 32 := 0#32
  let c1_i32_72 : BitVec 32 := 1#32
  let arg7 : BitVec 32 := Scf.iv c0_i32_70 c1_i32_72 k0_t6
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c2_i32_164 : BitVec 32 := 2#32
  let c0_i32_167 : BitVec 32 := 0#32
  let v158 : BitVec 1 := Scalar.cmpi .sgt c2_i32_164 c0_i32_167
  let v159 : BitVec 32 := Scalar.extui v158
  let c0_i32_168 : BitVec 32 := 0#32
  let v160 : BitVec 1 := Scalar.cmpi .slt c2_i32_164 c0_i32_168
  let v161 : BitVec 32 := Scalar.extui v160
  let v162 : BitVec 32 := Scalar.subi v159 v161
  let v163 : BitVec 1 := Scalar.cmpi .ne v157 v162
  let v164 : BitVec 32 := Scalar.remsi arg7 c2_i32_164
  let c0_i32_169 : BitVec 32 := 0#32
  let v165 : BitVec 1 := Scalar.cmpi .ne v164 c0_i32_169
  let v166 : BitVec 1 := Scalar.andi v163 v165
  let v152 : BitVec 32 := Scalar.divsi arg7 c2_i32_164
  let c1_i32_170 : BitVec 32 := 1#32
  let v167 : BitVec 32 := Scalar.subi v152 c1_i32_170
  let v168 : BitVec 32 := Scalar.select v166 v167 v152
  let c2_i32_171 : BitVec 32 := 2#32
  let v169 : BitVec 32 := Scalar.muli v168 c2_i32_171
  let c2_i32_172 : BitVec 32 := 2#32
  let v170 : BitVec 32 := Scalar.muli v169 c2_i32_172
  let c2_i32_173 : BitVec 32 := 2#32
  let c0_i32_174 : BitVec 32 := 0#32
  let v171 : BitVec 1 := Scalar.cmpi .eq c2_i32_173 c0_i32_174
  let c1_i32_175 : BitVec 32 := 1#32
  let v172 : BitVec 32 := Scalar.select v171 c1_i32_175 c2_i32_173
  let v173 : BitVec 32 := Scalar.remsi arg7 v172
  let c0_i32_177 : BitVec 32 := 0#32
  let v175 : BitVec 1 := Scalar.cmpi .slt v173 c0_i32_177
  let c0_i32_178 : BitVec 32 := 0#32
  let v176 : BitVec 1 := Scalar.cmpi .slt v172 c0_i32_178
  let v177 : BitVec 1 := Scalar.xori v175 v176
  let c0_i32_176 : BitVec 32 := 0#32
  let v174 : BitVec 1 := Scalar.cmpi .ne v173 c0_i32_176
  let v178 : BitVec 1 := Scalar.andi v177 v174
  let v179 : BitVec 32 := Scalar.addi v173 v172
  let v180 : BitVec 32 := Scalar.select v178 v179 v173
  let v181 : BitVec 32 := Scalar.addi v170 v180
  let c0_i32_179 : BitVec 32 := 0#32
  let v182 : BitVec 32 := Scalar.addi v181 c0_i32_179
  let c128_i32 : BitVec 32 := 128#32
  let v183 : BitVec 32 := Scalar.muli v182 c128_i32
  let v184 : Index := Scalar.indexCast v183
  let c0_180 : Index := 0#32
  ![v184.toNat, 0]
@[reducible] def k0_t7_loop : Scf.Loop 32 :=
  let c0_i32_74 : BitVec 32 := 0#32
  let c8_i32_75 : BitVec 32 := 8#32
  let v122 : BitVec 32 := Scalar.addi c0_i32_74 c8_i32_75
  let c1_i32_76 : BitVec 32 := 1#32
  ⟨c0_i32_74, v122, c1_i32_76⟩
def k0_off9 (k0_t7 : Fin k0_t7_loop.trips) : Fin 2 → Nat :=
  let c0_i32_74 : BitVec 32 := 0#32
  let c1_i32_76 : BitVec 32 := 1#32
  let arg7 : BitVec 32 := Scf.iv c0_i32_74 c1_i32_76 k0_t7
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c2_i32_164 : BitVec 32 := 2#32
  let c0_i32_167 : BitVec 32 := 0#32
  let v158 : BitVec 1 := Scalar.cmpi .sgt c2_i32_164 c0_i32_167
  let v159 : BitVec 32 := Scalar.extui v158
  let c0_i32_168 : BitVec 32 := 0#32
  let v160 : BitVec 1 := Scalar.cmpi .slt c2_i32_164 c0_i32_168
  let v161 : BitVec 32 := Scalar.extui v160
  let v162 : BitVec 32 := Scalar.subi v159 v161
  let v163 : BitVec 1 := Scalar.cmpi .ne v157 v162
  let v164 : BitVec 32 := Scalar.remsi arg7 c2_i32_164
  let c0_i32_169 : BitVec 32 := 0#32
  let v165 : BitVec 1 := Scalar.cmpi .ne v164 c0_i32_169
  let v166 : BitVec 1 := Scalar.andi v163 v165
  let v152 : BitVec 32 := Scalar.divsi arg7 c2_i32_164
  let c1_i32_170 : BitVec 32 := 1#32
  let v167 : BitVec 32 := Scalar.subi v152 c1_i32_170
  let v168 : BitVec 32 := Scalar.select v166 v167 v152
  let c2_i32_171 : BitVec 32 := 2#32
  let v169 : BitVec 32 := Scalar.muli v168 c2_i32_171
  let c2_i32_172 : BitVec 32 := 2#32
  let v170 : BitVec 32 := Scalar.muli v169 c2_i32_172
  let c2_i32_173 : BitVec 32 := 2#32
  let c0_i32_174 : BitVec 32 := 0#32
  let v171 : BitVec 1 := Scalar.cmpi .eq c2_i32_173 c0_i32_174
  let c1_i32_175 : BitVec 32 := 1#32
  let v172 : BitVec 32 := Scalar.select v171 c1_i32_175 c2_i32_173
  let v173 : BitVec 32 := Scalar.remsi arg7 v172
  let c0_i32_177 : BitVec 32 := 0#32
  let v175 : BitVec 1 := Scalar.cmpi .slt v173 c0_i32_177
  let c0_i32_178 : BitVec 32 := 0#32
  let v176 : BitVec 1 := Scalar.cmpi .slt v172 c0_i32_178
  let v177 : BitVec 1 := Scalar.xori v175 v176
  let c0_i32_176 : BitVec 32 := 0#32
  let v174 : BitVec 1 := Scalar.cmpi .ne v173 c0_i32_176
  let v178 : BitVec 1 := Scalar.andi v177 v174
  let v179 : BitVec 32 := Scalar.addi v173 v172
  let v180 : BitVec 32 := Scalar.select v178 v179 v173
  let v181 : BitVec 32 := Scalar.addi v170 v180
  let c2_i32_179 : BitVec 32 := 2#32
  let v182 : BitVec 32 := Scalar.addi v181 c2_i32_179
  let c128_i32 : BitVec 32 := 128#32
  let v183 : BitVec 32 := Scalar.muli v182 c128_i32
  let v184 : Index := Scalar.indexCast v183
  let c0_180 : Index := 0#32
  ![v184.toNat, 0]
@[reducible] def k0_t8_loop : Scf.Loop 32 :=
  let c0_i32_78 : BitVec 32 := 0#32
  let c2_i32_79 : BitVec 32 := 2#32
  let v123 : BitVec 32 := Scalar.addi c0_i32_78 c2_i32_79
  let c1_i32_80 : BitVec 32 := 1#32
  ⟨c0_i32_78, v123, c1_i32_80⟩
def k0_off10 (k0_t8 : Fin k0_t8_loop.trips) : Fin 2 → Nat :=
  let c0_i32_78 : BitVec 32 := 0#32
  let c1_i32_80 : BitVec 32 := 1#32
  let arg7 : BitVec 32 := Scf.iv c0_i32_78 c1_i32_80 k0_t8
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c256_i32 : BitVec 32 := 256#32
  let v211 : BitVec 32 := Scalar.muli v210 c256_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32_194 : BitVec 32 := 256#32
  let v212 : BitVec 32 := Scalar.muli v178 c256_i32_194
  let v213 : BitVec 32 := Scalar.addi v211 v212
  let v214 : Index := Scalar.indexCast v213
  let c0_195 : Index := 0#32
  ![v214.toNat, 0]
def k0_off11 (k0_t8 : Fin k0_t8_loop.trips) : Fin 2 → Nat :=
  let c0_i32_78 : BitVec 32 := 0#32
  let c1_i32_80 : BitVec 32 := 1#32
  let arg7 : BitVec 32 := Scf.iv c0_i32_78 c1_i32_80 k0_t8
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c256_i32 : BitVec 32 := 256#32
  let v211 : BitVec 32 := Scalar.muli v210 c256_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32_194 : BitVec 32 := 256#32
  let v212 : BitVec 32 := Scalar.muli v178 c256_i32_194
  let v213 : BitVec 32 := Scalar.addi v211 v212
  let c256_i32_196 : BitVec 32 := 256#32
  let v216 : BitVec 32 := Scalar.addi v213 c256_i32_196
  let v217 : Index := Scalar.indexCast v216
  let c0_197 : Index := 0#32
  ![v217.toNat, 0]
@[reducible] def k0_t9_loop : Scf.Loop 32 :=
  let c0_i32_82 : BitVec 32 := 0#32
  let c2_i32_83 : BitVec 32 := 2#32
  let v124 : BitVec 32 := Scalar.addi c0_i32_82 c2_i32_83
  let c1_i32_84 : BitVec 32 := 1#32
  ⟨c0_i32_82, v124, c1_i32_84⟩
def k0_off12 (k0_t9 : Fin k0_t9_loop.trips) : Fin 2 → Nat :=
  let c0_i32_82 : BitVec 32 := 0#32
  let c1_i32_84 : BitVec 32 := 1#32
  let arg7 : BitVec 32 := Scf.iv c0_i32_82 c1_i32_84 k0_t9
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c1_i32_192 : BitVec 32 := 1#32
  let v209 : BitVec 32 := Scalar.addi v208 c1_i32_192
  let c2_i32_193 : BitVec 32 := 2#32
  let v210 : BitVec 32 := Scalar.muli v209 c2_i32_193
  let c256_i32 : BitVec 32 := 256#32
  let v211 : BitVec 32 := Scalar.muli v210 c256_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32_194 : BitVec 32 := 256#32
  let v212 : BitVec 32 := Scalar.muli v178 c256_i32_194
  let v213 : BitVec 32 := Scalar.addi v211 v212
  let v214 : Index := Scalar.indexCast v213
  let c0_195 : Index := 0#32
  ![v214.toNat, 0]
def k0_off13 (k0_t9 : Fin k0_t9_loop.trips) : Fin 2 → Nat :=
  let c0_i32_82 : BitVec 32 := 0#32
  let c1_i32_84 : BitVec 32 := 1#32
  let arg7 : BitVec 32 := Scf.iv c0_i32_82 c1_i32_84 k0_t9
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c1_i32_192 : BitVec 32 := 1#32
  let v209 : BitVec 32 := Scalar.addi v208 c1_i32_192
  let c2_i32_193 : BitVec 32 := 2#32
  let v210 : BitVec 32 := Scalar.muli v209 c2_i32_193
  let c256_i32 : BitVec 32 := 256#32
  let v211 : BitVec 32 := Scalar.muli v210 c256_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32_194 : BitVec 32 := 256#32
  let v212 : BitVec 32 := Scalar.muli v178 c256_i32_194
  let v213 : BitVec 32 := Scalar.addi v211 v212
  let c256_i32_196 : BitVec 32 := 256#32
  let v216 : BitVec 32 := Scalar.addi v213 c256_i32_196
  let v217 : Index := Scalar.indexCast v216
  let c0_197 : Index := 0#32
  ![v217.toNat, 0]
@[reducible] def k0_t10_loop : Scf.Loop 32 :=
  let c0_i32_86 : BitVec 32 := 0#32
  let c4_i32_87 : BitVec 32 := 4#32
  let v125 : BitVec 32 := Scalar.addi c0_i32_86 c4_i32_87
  let c1_i32_88 : BitVec 32 := 1#32
  ⟨c0_i32_86, v125, c1_i32_88⟩
def k0_off14 (k0_t10 : Fin k0_t10_loop.trips) : Fin 2 → Nat :=
  let c0_i32_86 : BitVec 32 := 0#32
  let c1_i32_88 : BitVec 32 := 1#32
  let arg7 : BitVec 32 := Scf.iv c0_i32_86 c1_i32_88 k0_t10
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c2_i32_177 : BitVec 32 := 2#32
  let c0_i32_180 : BitVec 32 := 0#32
  let v185 : BitVec 1 := Scalar.cmpi .sgt c2_i32_177 c0_i32_180
  let v186 : BitVec 32 := Scalar.extui v185
  let c0_i32_181 : BitVec 32 := 0#32
  let v187 : BitVec 1 := Scalar.cmpi .slt c2_i32_177 c0_i32_181
  let v188 : BitVec 32 := Scalar.extui v187
  let v189 : BitVec 32 := Scalar.subi v186 v188
  let v190 : BitVec 1 := Scalar.cmpi .ne v184 v189
  let v191 : BitVec 32 := Scalar.remsi v168 c2_i32_177
  let c0_i32_182 : BitVec 32 := 0#32
  let v192 : BitVec 1 := Scalar.cmpi .ne v191 c0_i32_182
  let v193 : BitVec 1 := Scalar.andi v190 v192
  let v179 : BitVec 32 := Scalar.divsi v168 c2_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c2_i32_185 : BitVec 32 := 2#32
  let v197 : BitVec 32 := Scalar.muli v196 c2_i32_185
  let c2_i32_186 : BitVec 32 := 2#32
  let c0_i32_187 : BitVec 32 := 0#32
  let v198 : BitVec 1 := Scalar.cmpi .eq c2_i32_186 c0_i32_187
  let c1_i32_188 : BitVec 32 := 1#32
  let v199 : BitVec 32 := Scalar.select v198 c1_i32_188 c2_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let v214 : Index := Scalar.indexCast v213
  let c0_195 : Index := 0#32
  ![v214.toNat, 0]
def k0_off15 (k0_t10 : Fin k0_t10_loop.trips) : Fin 2 → Nat :=
  let c0_i32_86 : BitVec 32 := 0#32
  let c1_i32_88 : BitVec 32 := 1#32
  let arg7 : BitVec 32 := Scf.iv c0_i32_86 c1_i32_88 k0_t10
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c2_i32_177 : BitVec 32 := 2#32
  let c0_i32_180 : BitVec 32 := 0#32
  let v185 : BitVec 1 := Scalar.cmpi .sgt c2_i32_177 c0_i32_180
  let v186 : BitVec 32 := Scalar.extui v185
  let c0_i32_181 : BitVec 32 := 0#32
  let v187 : BitVec 1 := Scalar.cmpi .slt c2_i32_177 c0_i32_181
  let v188 : BitVec 32 := Scalar.extui v187
  let v189 : BitVec 32 := Scalar.subi v186 v188
  let v190 : BitVec 1 := Scalar.cmpi .ne v184 v189
  let v191 : BitVec 32 := Scalar.remsi v168 c2_i32_177
  let c0_i32_182 : BitVec 32 := 0#32
  let v192 : BitVec 1 := Scalar.cmpi .ne v191 c0_i32_182
  let v193 : BitVec 1 := Scalar.andi v190 v192
  let v179 : BitVec 32 := Scalar.divsi v168 c2_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c2_i32_185 : BitVec 32 := 2#32
  let v197 : BitVec 32 := Scalar.muli v196 c2_i32_185
  let c2_i32_186 : BitVec 32 := 2#32
  let c0_i32_187 : BitVec 32 := 0#32
  let v198 : BitVec 1 := Scalar.cmpi .eq c2_i32_186 c0_i32_187
  let c1_i32_188 : BitVec 32 := 1#32
  let v199 : BitVec 32 := Scalar.select v198 c1_i32_188 c2_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let c128_i32_196 : BitVec 32 := 128#32
  let v216 : BitVec 32 := Scalar.addi v213 c128_i32_196
  let v217 : Index := Scalar.indexCast v216
  let c0_197 : Index := 0#32
  ![v217.toNat, 0]
@[reducible] def k0_t11_loop : Scf.Loop 32 :=
  let c0_i32_90 : BitVec 32 := 0#32
  let c4_i32_91 : BitVec 32 := 4#32
  let v126 : BitVec 32 := Scalar.addi c0_i32_90 c4_i32_91
  let c1_i32_92 : BitVec 32 := 1#32
  ⟨c0_i32_90, v126, c1_i32_92⟩
def k0_off16 (k0_t11 : Fin k0_t11_loop.trips) : Fin 2 → Nat :=
  let c0_i32_90 : BitVec 32 := 0#32
  let c1_i32_92 : BitVec 32 := 1#32
  let arg7 : BitVec 32 := Scf.iv c0_i32_90 c1_i32_92 k0_t11
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c2_i32_177 : BitVec 32 := 2#32
  let c0_i32_180 : BitVec 32 := 0#32
  let v185 : BitVec 1 := Scalar.cmpi .sgt c2_i32_177 c0_i32_180
  let v186 : BitVec 32 := Scalar.extui v185
  let c0_i32_181 : BitVec 32 := 0#32
  let v187 : BitVec 1 := Scalar.cmpi .slt c2_i32_177 c0_i32_181
  let v188 : BitVec 32 := Scalar.extui v187
  let v189 : BitVec 32 := Scalar.subi v186 v188
  let v190 : BitVec 1 := Scalar.cmpi .ne v184 v189
  let v191 : BitVec 32 := Scalar.remsi v168 c2_i32_177
  let c0_i32_182 : BitVec 32 := 0#32
  let v192 : BitVec 1 := Scalar.cmpi .ne v191 c0_i32_182
  let v193 : BitVec 1 := Scalar.andi v190 v192
  let v179 : BitVec 32 := Scalar.divsi v168 c2_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c2_i32_185 : BitVec 32 := 2#32
  let v197 : BitVec 32 := Scalar.muli v196 c2_i32_185
  let c2_i32_186 : BitVec 32 := 2#32
  let c0_i32_187 : BitVec 32 := 0#32
  let v198 : BitVec 1 := Scalar.cmpi .eq c2_i32_186 c0_i32_187
  let c1_i32_188 : BitVec 32 := 1#32
  let v199 : BitVec 32 := Scalar.select v198 c1_i32_188 c2_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c2_i32_192 : BitVec 32 := 2#32
  let v209 : BitVec 32 := Scalar.addi v208 c2_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let v214 : Index := Scalar.indexCast v213
  let c0_195 : Index := 0#32
  ![v214.toNat, 0]
def k0_off17 (k0_t11 : Fin k0_t11_loop.trips) : Fin 2 → Nat :=
  let c0_i32_90 : BitVec 32 := 0#32
  let c1_i32_92 : BitVec 32 := 1#32
  let arg7 : BitVec 32 := Scf.iv c0_i32_90 c1_i32_92 k0_t11
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c2_i32_177 : BitVec 32 := 2#32
  let c0_i32_180 : BitVec 32 := 0#32
  let v185 : BitVec 1 := Scalar.cmpi .sgt c2_i32_177 c0_i32_180
  let v186 : BitVec 32 := Scalar.extui v185
  let c0_i32_181 : BitVec 32 := 0#32
  let v187 : BitVec 1 := Scalar.cmpi .slt c2_i32_177 c0_i32_181
  let v188 : BitVec 32 := Scalar.extui v187
  let v189 : BitVec 32 := Scalar.subi v186 v188
  let v190 : BitVec 1 := Scalar.cmpi .ne v184 v189
  let v191 : BitVec 32 := Scalar.remsi v168 c2_i32_177
  let c0_i32_182 : BitVec 32 := 0#32
  let v192 : BitVec 1 := Scalar.cmpi .ne v191 c0_i32_182
  let v193 : BitVec 1 := Scalar.andi v190 v192
  let v179 : BitVec 32 := Scalar.divsi v168 c2_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c2_i32_185 : BitVec 32 := 2#32
  let v197 : BitVec 32 := Scalar.muli v196 c2_i32_185
  let c2_i32_186 : BitVec 32 := 2#32
  let c0_i32_187 : BitVec 32 := 0#32
  let v198 : BitVec 1 := Scalar.cmpi .eq c2_i32_186 c0_i32_187
  let c1_i32_188 : BitVec 32 := 1#32
  let v199 : BitVec 32 := Scalar.select v198 c1_i32_188 c2_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c2_i32_192 : BitVec 32 := 2#32
  let v209 : BitVec 32 := Scalar.addi v208 c2_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let c128_i32_196 : BitVec 32 := 128#32
  let v216 : BitVec 32 := Scalar.addi v213 c128_i32_196
  let v217 : Index := Scalar.indexCast v216
  let c0_197 : Index := 0#32
  ![v217.toNat, 0]
@[reducible] def k0_t12_loop : Scf.Loop 32 :=
  let c0_i32_94 : BitVec 32 := 0#32
  let c8_i32_95 : BitVec 32 := 8#32
  let v127 : BitVec 32 := Scalar.addi c0_i32_94 c8_i32_95
  let c1_i32_96 : BitVec 32 := 1#32
  ⟨c0_i32_94, v127, c1_i32_96⟩
def k0_off18 (k0_t12 : Fin k0_t12_loop.trips) : Fin 2 → Nat :=
  let c0_i32_94 : BitVec 32 := 0#32
  let c1_i32_96 : BitVec 32 := 1#32
  let arg7 : BitVec 32 := Scf.iv c0_i32_94 c1_i32_96 k0_t12
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c4_i32_164 : BitVec 32 := 4#32
  let c0_i32_167 : BitVec 32 := 0#32
  let v158 : BitVec 1 := Scalar.cmpi .sgt c4_i32_164 c0_i32_167
  let v159 : BitVec 32 := Scalar.extui v158
  let c0_i32_168 : BitVec 32 := 0#32
  let v160 : BitVec 1 := Scalar.cmpi .slt c4_i32_164 c0_i32_168
  let v161 : BitVec 32 := Scalar.extui v160
  let v162 : BitVec 32 := Scalar.subi v159 v161
  let v163 : BitVec 1 := Scalar.cmpi .ne v157 v162
  let v164 : BitVec 32 := Scalar.remsi arg7 c4_i32_164
  let c0_i32_169 : BitVec 32 := 0#32
  let v165 : BitVec 1 := Scalar.cmpi .ne v164 c0_i32_169
  let v166 : BitVec 1 := Scalar.andi v163 v165
  let v152 : BitVec 32 := Scalar.divsi arg7 c4_i32_164
  let c1_i32_170 : BitVec 32 := 1#32
  let v167 : BitVec 32 := Scalar.subi v152 c1_i32_170
  let v168 : BitVec 32 := Scalar.select v166 v167 v152
  let c2_i32_171 : BitVec 32 := 2#32
  let v169 : BitVec 32 := Scalar.muli v168 c2_i32_171
  let c4_i32_172 : BitVec 32 := 4#32
  let v170 : BitVec 32 := Scalar.muli v169 c4_i32_172
  let c4_i32_173 : BitVec 32 := 4#32
  let c0_i32_174 : BitVec 32 := 0#32
  let v171 : BitVec 1 := Scalar.cmpi .eq c4_i32_173 c0_i32_174
  let c1_i32_175 : BitVec 32 := 1#32
  let v172 : BitVec 32 := Scalar.select v171 c1_i32_175 c4_i32_173
  let v173 : BitVec 32 := Scalar.remsi arg7 v172
  let c0_i32_177 : BitVec 32 := 0#32
  let v175 : BitVec 1 := Scalar.cmpi .slt v173 c0_i32_177
  let c0_i32_178 : BitVec 32 := 0#32
  let v176 : BitVec 1 := Scalar.cmpi .slt v172 c0_i32_178
  let v177 : BitVec 1 := Scalar.xori v175 v176
  let c0_i32_176 : BitVec 32 := 0#32
  let v174 : BitVec 1 := Scalar.cmpi .ne v173 c0_i32_176
  let v178 : BitVec 1 := Scalar.andi v177 v174
  let v179 : BitVec 32 := Scalar.addi v173 v172
  let v180 : BitVec 32 := Scalar.select v178 v179 v173
  let v181 : BitVec 32 := Scalar.addi v170 v180
  let c0_i32_179 : BitVec 32 := 0#32
  let v182 : BitVec 32 := Scalar.addi v181 c0_i32_179
  let c128_i32 : BitVec 32 := 128#32
  let v183 : BitVec 32 := Scalar.muli v182 c128_i32
  let v184 : Index := Scalar.indexCast v183
  let c0_180 : Index := 0#32
  ![v184.toNat, 0]
@[reducible] def k0_t13_loop : Scf.Loop 32 :=
  let c0_i32_98 : BitVec 32 := 0#32
  let c8_i32_99 : BitVec 32 := 8#32
  let v128 : BitVec 32 := Scalar.addi c0_i32_98 c8_i32_99
  let c1_i32_100 : BitVec 32 := 1#32
  ⟨c0_i32_98, v128, c1_i32_100⟩
def k0_off19 (k0_t13 : Fin k0_t13_loop.trips) : Fin 2 → Nat :=
  let c0_i32_98 : BitVec 32 := 0#32
  let c1_i32_100 : BitVec 32 := 1#32
  let arg7 : BitVec 32 := Scf.iv c0_i32_98 c1_i32_100 k0_t13
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c4_i32_164 : BitVec 32 := 4#32
  let c0_i32_167 : BitVec 32 := 0#32
  let v158 : BitVec 1 := Scalar.cmpi .sgt c4_i32_164 c0_i32_167
  let v159 : BitVec 32 := Scalar.extui v158
  let c0_i32_168 : BitVec 32 := 0#32
  let v160 : BitVec 1 := Scalar.cmpi .slt c4_i32_164 c0_i32_168
  let v161 : BitVec 32 := Scalar.extui v160
  let v162 : BitVec 32 := Scalar.subi v159 v161
  let v163 : BitVec 1 := Scalar.cmpi .ne v157 v162
  let v164 : BitVec 32 := Scalar.remsi arg7 c4_i32_164
  let c0_i32_169 : BitVec 32 := 0#32
  let v165 : BitVec 1 := Scalar.cmpi .ne v164 c0_i32_169
  let v166 : BitVec 1 := Scalar.andi v163 v165
  let v152 : BitVec 32 := Scalar.divsi arg7 c4_i32_164
  let c1_i32_170 : BitVec 32 := 1#32
  let v167 : BitVec 32 := Scalar.subi v152 c1_i32_170
  let v168 : BitVec 32 := Scalar.select v166 v167 v152
  let c2_i32_171 : BitVec 32 := 2#32
  let v169 : BitVec 32 := Scalar.muli v168 c2_i32_171
  let c4_i32_172 : BitVec 32 := 4#32
  let v170 : BitVec 32 := Scalar.muli v169 c4_i32_172
  let c4_i32_173 : BitVec 32 := 4#32
  let c0_i32_174 : BitVec 32 := 0#32
  let v171 : BitVec 1 := Scalar.cmpi .eq c4_i32_173 c0_i32_174
  let c1_i32_175 : BitVec 32 := 1#32
  let v172 : BitVec 32 := Scalar.select v171 c1_i32_175 c4_i32_173
  let v173 : BitVec 32 := Scalar.remsi arg7 v172
  let c0_i32_177 : BitVec 32 := 0#32
  let v175 : BitVec 1 := Scalar.cmpi .slt v173 c0_i32_177
  let c0_i32_178 : BitVec 32 := 0#32
  let v176 : BitVec 1 := Scalar.cmpi .slt v172 c0_i32_178
  let v177 : BitVec 1 := Scalar.xori v175 v176
  let c0_i32_176 : BitVec 32 := 0#32
  let v174 : BitVec 1 := Scalar.cmpi .ne v173 c0_i32_176
  let v178 : BitVec 1 := Scalar.andi v177 v174
  let v179 : BitVec 32 := Scalar.addi v173 v172
  let v180 : BitVec 32 := Scalar.select v178 v179 v173
  let v181 : BitVec 32 := Scalar.addi v170 v180
  let c4_i32_179 : BitVec 32 := 4#32
  let v182 : BitVec 32 := Scalar.addi v181 c4_i32_179
  let c128_i32 : BitVec 32 := 128#32
  let v183 : BitVec 32 := Scalar.muli v182 c128_i32
  let v184 : Index := Scalar.indexCast v183
  let c0_180 : Index := 0#32
  ![v184.toNat, 0]
@[reducible] def k0_t14_loop : Scf.Loop 32 :=
  let c0_i32_102 : BitVec 32 := 0#32
  let c2_i32_103 : BitVec 32 := 2#32
  let v129 : BitVec 32 := Scalar.addi c0_i32_102 c2_i32_103
  let c1_i32_104 : BitVec 32 := 1#32
  ⟨c0_i32_102, v129, c1_i32_104⟩
def k0_off20 (k0_t14 : Fin k0_t14_loop.trips) : Fin 2 → Nat :=
  let c0_i32_102 : BitVec 32 := 0#32
  let c1_i32_104 : BitVec 32 := 1#32
  let arg7 : BitVec 32 := Scf.iv c0_i32_102 c1_i32_104 k0_t14
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c2_i32_164 : BitVec 32 := 2#32
  let c0_i32_167 : BitVec 32 := 0#32
  let v158 : BitVec 1 := Scalar.cmpi .sgt c2_i32_164 c0_i32_167
  let v159 : BitVec 32 := Scalar.extui v158
  let c0_i32_168 : BitVec 32 := 0#32
  let v160 : BitVec 1 := Scalar.cmpi .slt c2_i32_164 c0_i32_168
  let v161 : BitVec 32 := Scalar.extui v160
  let v162 : BitVec 32 := Scalar.subi v159 v161
  let v163 : BitVec 1 := Scalar.cmpi .ne v157 v162
  let v164 : BitVec 32 := Scalar.remsi arg7 c2_i32_164
  let c0_i32_169 : BitVec 32 := 0#32
  let v165 : BitVec 1 := Scalar.cmpi .ne v164 c0_i32_169
  let v166 : BitVec 1 := Scalar.andi v163 v165
  let v152 : BitVec 32 := Scalar.divsi arg7 c2_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c512_i32 : BitVec 32 := 512#32
  let v211 : BitVec 32 := Scalar.muli v210 c512_i32
  let c2_i32_171 : BitVec 32 := 2#32
  let c0_i32_172 : BitVec 32 := 0#32
  let v169 : BitVec 1 := Scalar.cmpi .eq c2_i32_171 c0_i32_172
  let c1_i32_173 : BitVec 32 := 1#32
  let v170 : BitVec 32 := Scalar.select v169 c1_i32_173 c2_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32 : BitVec 32 := 256#32
  let v212 : BitVec 32 := Scalar.muli v178 c256_i32
  let v213 : BitVec 32 := Scalar.addi v211 v212
  let v214 : Index := Scalar.indexCast v213
  let c0_194 : Index := 0#32
  ![v214.toNat, 0]
def k0_off21 (k0_t14 : Fin k0_t14_loop.trips) : Fin 2 → Nat :=
  let c0_i32_102 : BitVec 32 := 0#32
  let c1_i32_104 : BitVec 32 := 1#32
  let arg7 : BitVec 32 := Scf.iv c0_i32_102 c1_i32_104 k0_t14
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c2_i32_164 : BitVec 32 := 2#32
  let c0_i32_167 : BitVec 32 := 0#32
  let v158 : BitVec 1 := Scalar.cmpi .sgt c2_i32_164 c0_i32_167
  let v159 : BitVec 32 := Scalar.extui v158
  let c0_i32_168 : BitVec 32 := 0#32
  let v160 : BitVec 1 := Scalar.cmpi .slt c2_i32_164 c0_i32_168
  let v161 : BitVec 32 := Scalar.extui v160
  let v162 : BitVec 32 := Scalar.subi v159 v161
  let v163 : BitVec 1 := Scalar.cmpi .ne v157 v162
  let v164 : BitVec 32 := Scalar.remsi arg7 c2_i32_164
  let c0_i32_169 : BitVec 32 := 0#32
  let v165 : BitVec 1 := Scalar.cmpi .ne v164 c0_i32_169
  let v166 : BitVec 1 := Scalar.andi v163 v165
  let v152 : BitVec 32 := Scalar.divsi arg7 c2_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c512_i32 : BitVec 32 := 512#32
  let v211 : BitVec 32 := Scalar.muli v210 c512_i32
  let c2_i32_171 : BitVec 32 := 2#32
  let c0_i32_172 : BitVec 32 := 0#32
  let v169 : BitVec 1 := Scalar.cmpi .eq c2_i32_171 c0_i32_172
  let c1_i32_173 : BitVec 32 := 1#32
  let v170 : BitVec 32 := Scalar.select v169 c1_i32_173 c2_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32 : BitVec 32 := 256#32
  let v212 : BitVec 32 := Scalar.muli v178 c256_i32
  let v213 : BitVec 32 := Scalar.addi v211 v212
  let c512_i32_195 : BitVec 32 := 512#32
  let v216 : BitVec 32 := Scalar.addi v213 c512_i32_195
  let v217 : Index := Scalar.indexCast v216
  let c0_196 : Index := 0#32
  ![v217.toNat, 0]
@[reducible] def k0_t15_loop : Scf.Loop 32 :=
  let c0_i32_106 : BitVec 32 := 0#32
  let c2_i32_107 : BitVec 32 := 2#32
  let v130 : BitVec 32 := Scalar.addi c0_i32_106 c2_i32_107
  let c1_i32_108 : BitVec 32 := 1#32
  ⟨c0_i32_106, v130, c1_i32_108⟩
def k0_off22 (k0_t15 : Fin k0_t15_loop.trips) : Fin 2 → Nat :=
  let c0_i32_106 : BitVec 32 := 0#32
  let c1_i32_108 : BitVec 32 := 1#32
  let arg7 : BitVec 32 := Scf.iv c0_i32_106 c1_i32_108 k0_t15
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c2_i32_164 : BitVec 32 := 2#32
  let c0_i32_167 : BitVec 32 := 0#32
  let v158 : BitVec 1 := Scalar.cmpi .sgt c2_i32_164 c0_i32_167
  let v159 : BitVec 32 := Scalar.extui v158
  let c0_i32_168 : BitVec 32 := 0#32
  let v160 : BitVec 1 := Scalar.cmpi .slt c2_i32_164 c0_i32_168
  let v161 : BitVec 32 := Scalar.extui v160
  let v162 : BitVec 32 := Scalar.subi v159 v161
  let v163 : BitVec 1 := Scalar.cmpi .ne v157 v162
  let v164 : BitVec 32 := Scalar.remsi arg7 c2_i32_164
  let c0_i32_169 : BitVec 32 := 0#32
  let v165 : BitVec 1 := Scalar.cmpi .ne v164 c0_i32_169
  let v166 : BitVec 1 := Scalar.andi v163 v165
  let v152 : BitVec 32 := Scalar.divsi arg7 c2_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c1_i32_192 : BitVec 32 := 1#32
  let v209 : BitVec 32 := Scalar.addi v208 c1_i32_192
  let c2_i32_193 : BitVec 32 := 2#32
  let v210 : BitVec 32 := Scalar.muli v209 c2_i32_193
  let c512_i32 : BitVec 32 := 512#32
  let v211 : BitVec 32 := Scalar.muli v210 c512_i32
  let c2_i32_171 : BitVec 32 := 2#32
  let c0_i32_172 : BitVec 32 := 0#32
  let v169 : BitVec 1 := Scalar.cmpi .eq c2_i32_171 c0_i32_172
  let c1_i32_173 : BitVec 32 := 1#32
  let v170 : BitVec 32 := Scalar.select v169 c1_i32_173 c2_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32 : BitVec 32 := 256#32
  let v212 : BitVec 32 := Scalar.muli v178 c256_i32
  let v213 : BitVec 32 := Scalar.addi v211 v212
  let v214 : Index := Scalar.indexCast v213
  let c0_194 : Index := 0#32
  ![v214.toNat, 0]
def k0_off23 (k0_t15 : Fin k0_t15_loop.trips) : Fin 2 → Nat :=
  let c0_i32_106 : BitVec 32 := 0#32
  let c1_i32_108 : BitVec 32 := 1#32
  let arg7 : BitVec 32 := Scf.iv c0_i32_106 c1_i32_108 k0_t15
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c2_i32_164 : BitVec 32 := 2#32
  let c0_i32_167 : BitVec 32 := 0#32
  let v158 : BitVec 1 := Scalar.cmpi .sgt c2_i32_164 c0_i32_167
  let v159 : BitVec 32 := Scalar.extui v158
  let c0_i32_168 : BitVec 32 := 0#32
  let v160 : BitVec 1 := Scalar.cmpi .slt c2_i32_164 c0_i32_168
  let v161 : BitVec 32 := Scalar.extui v160
  let v162 : BitVec 32 := Scalar.subi v159 v161
  let v163 : BitVec 1 := Scalar.cmpi .ne v157 v162
  let v164 : BitVec 32 := Scalar.remsi arg7 c2_i32_164
  let c0_i32_169 : BitVec 32 := 0#32
  let v165 : BitVec 1 := Scalar.cmpi .ne v164 c0_i32_169
  let v166 : BitVec 1 := Scalar.andi v163 v165
  let v152 : BitVec 32 := Scalar.divsi arg7 c2_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c1_i32_192 : BitVec 32 := 1#32
  let v209 : BitVec 32 := Scalar.addi v208 c1_i32_192
  let c2_i32_193 : BitVec 32 := 2#32
  let v210 : BitVec 32 := Scalar.muli v209 c2_i32_193
  let c512_i32 : BitVec 32 := 512#32
  let v211 : BitVec 32 := Scalar.muli v210 c512_i32
  let c2_i32_171 : BitVec 32 := 2#32
  let c0_i32_172 : BitVec 32 := 0#32
  let v169 : BitVec 1 := Scalar.cmpi .eq c2_i32_171 c0_i32_172
  let c1_i32_173 : BitVec 32 := 1#32
  let v170 : BitVec 32 := Scalar.select v169 c1_i32_173 c2_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32 : BitVec 32 := 256#32
  let v212 : BitVec 32 := Scalar.muli v178 c256_i32
  let v213 : BitVec 32 := Scalar.addi v211 v212
  let c512_i32_195 : BitVec 32 := 512#32
  let v216 : BitVec 32 := Scalar.addi v213 c512_i32_195
  let v217 : Index := Scalar.indexCast v216
  let c0_196 : Index := 0#32
  ![v217.toNat, 0]
@[reducible] def k0_t16_loop : Scf.Loop 32 :=
  let c0_i32_110 : BitVec 32 := 0#32
  let c2_i32_111 : BitVec 32 := 2#32
  let v131 : BitVec 32 := Scalar.addi c0_i32_110 c2_i32_111
  let c1_i32_112 : BitVec 32 := 1#32
  ⟨c0_i32_110, v131, c1_i32_112⟩
def k0_off24 (k0_t16 : Fin k0_t16_loop.trips) : Fin 2 → Nat :=
  let c0_i32_110 : BitVec 32 := 0#32
  let c1_i32_112 : BitVec 32 := 1#32
  let arg7 : BitVec 32 := Scf.iv c0_i32_110 c1_i32_112 k0_t16
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c2_i32_177 : BitVec 32 := 2#32
  let c0_i32_180 : BitVec 32 := 0#32
  let v185 : BitVec 1 := Scalar.cmpi .sgt c2_i32_177 c0_i32_180
  let v186 : BitVec 32 := Scalar.extui v185
  let c0_i32_181 : BitVec 32 := 0#32
  let v187 : BitVec 1 := Scalar.cmpi .slt c2_i32_177 c0_i32_181
  let v188 : BitVec 32 := Scalar.extui v187
  let v189 : BitVec 32 := Scalar.subi v186 v188
  let v190 : BitVec 1 := Scalar.cmpi .ne v184 v189
  let v191 : BitVec 32 := Scalar.remsi v168 c2_i32_177
  let c0_i32_182 : BitVec 32 := 0#32
  let v192 : BitVec 1 := Scalar.cmpi .ne v191 c0_i32_182
  let v193 : BitVec 1 := Scalar.andi v190 v192
  let v179 : BitVec 32 := Scalar.divsi v168 c2_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c2_i32_185 : BitVec 32 := 2#32
  let v197 : BitVec 32 := Scalar.muli v196 c2_i32_185
  let c2_i32_186 : BitVec 32 := 2#32
  let c0_i32_187 : BitVec 32 := 0#32
  let v198 : BitVec 1 := Scalar.cmpi .eq c2_i32_186 c0_i32_187
  let c1_i32_188 : BitVec 32 := 1#32
  let v199 : BitVec 32 := Scalar.select v198 c1_i32_188 c2_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c256_i32 : BitVec 32 := 256#32
  let v211 : BitVec 32 := Scalar.muli v210 c256_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32_194 : BitVec 32 := 256#32
  let v212 : BitVec 32 := Scalar.muli v178 c256_i32_194
  let v213 : BitVec 32 := Scalar.addi v211 v212
  let v214 : Index := Scalar.indexCast v213
  let c0_195 : Index := 0#32
  ![v214.toNat, 0]
def k0_off25 (k0_t16 : Fin k0_t16_loop.trips) : Fin 2 → Nat :=
  let c0_i32_110 : BitVec 32 := 0#32
  let c1_i32_112 : BitVec 32 := 1#32
  let arg7 : BitVec 32 := Scf.iv c0_i32_110 c1_i32_112 k0_t16
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c2_i32_177 : BitVec 32 := 2#32
  let c0_i32_180 : BitVec 32 := 0#32
  let v185 : BitVec 1 := Scalar.cmpi .sgt c2_i32_177 c0_i32_180
  let v186 : BitVec 32 := Scalar.extui v185
  let c0_i32_181 : BitVec 32 := 0#32
  let v187 : BitVec 1 := Scalar.cmpi .slt c2_i32_177 c0_i32_181
  let v188 : BitVec 32 := Scalar.extui v187
  let v189 : BitVec 32 := Scalar.subi v186 v188
  let v190 : BitVec 1 := Scalar.cmpi .ne v184 v189
  let v191 : BitVec 32 := Scalar.remsi v168 c2_i32_177
  let c0_i32_182 : BitVec 32 := 0#32
  let v192 : BitVec 1 := Scalar.cmpi .ne v191 c0_i32_182
  let v193 : BitVec 1 := Scalar.andi v190 v192
  let v179 : BitVec 32 := Scalar.divsi v168 c2_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c2_i32_185 : BitVec 32 := 2#32
  let v197 : BitVec 32 := Scalar.muli v196 c2_i32_185
  let c2_i32_186 : BitVec 32 := 2#32
  let c0_i32_187 : BitVec 32 := 0#32
  let v198 : BitVec 1 := Scalar.cmpi .eq c2_i32_186 c0_i32_187
  let c1_i32_188 : BitVec 32 := 1#32
  let v199 : BitVec 32 := Scalar.select v198 c1_i32_188 c2_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c256_i32 : BitVec 32 := 256#32
  let v211 : BitVec 32 := Scalar.muli v210 c256_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32_194 : BitVec 32 := 256#32
  let v212 : BitVec 32 := Scalar.muli v178 c256_i32_194
  let v213 : BitVec 32 := Scalar.addi v211 v212
  let c256_i32_196 : BitVec 32 := 256#32
  let v216 : BitVec 32 := Scalar.addi v213 c256_i32_196
  let v217 : Index := Scalar.indexCast v216
  let c0_197 : Index := 0#32
  ![v217.toNat, 0]
@[reducible] def k0_t17_loop : Scf.Loop 32 :=
  let c0_i32_114 : BitVec 32 := 0#32
  let c2_i32_115 : BitVec 32 := 2#32
  let v132 : BitVec 32 := Scalar.addi c0_i32_114 c2_i32_115
  let c1_i32_116 : BitVec 32 := 1#32
  ⟨c0_i32_114, v132, c1_i32_116⟩
def k0_off26 (k0_t17 : Fin k0_t17_loop.trips) : Fin 2 → Nat :=
  let c0_i32_114 : BitVec 32 := 0#32
  let c1_i32_116 : BitVec 32 := 1#32
  let arg7 : BitVec 32 := Scf.iv c0_i32_114 c1_i32_116 k0_t17
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c2_i32_177 : BitVec 32 := 2#32
  let c0_i32_180 : BitVec 32 := 0#32
  let v185 : BitVec 1 := Scalar.cmpi .sgt c2_i32_177 c0_i32_180
  let v186 : BitVec 32 := Scalar.extui v185
  let c0_i32_181 : BitVec 32 := 0#32
  let v187 : BitVec 1 := Scalar.cmpi .slt c2_i32_177 c0_i32_181
  let v188 : BitVec 32 := Scalar.extui v187
  let v189 : BitVec 32 := Scalar.subi v186 v188
  let v190 : BitVec 1 := Scalar.cmpi .ne v184 v189
  let v191 : BitVec 32 := Scalar.remsi v168 c2_i32_177
  let c0_i32_182 : BitVec 32 := 0#32
  let v192 : BitVec 1 := Scalar.cmpi .ne v191 c0_i32_182
  let v193 : BitVec 1 := Scalar.andi v190 v192
  let v179 : BitVec 32 := Scalar.divsi v168 c2_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c2_i32_185 : BitVec 32 := 2#32
  let v197 : BitVec 32 := Scalar.muli v196 c2_i32_185
  let c2_i32_186 : BitVec 32 := 2#32
  let c0_i32_187 : BitVec 32 := 0#32
  let v198 : BitVec 1 := Scalar.cmpi .eq c2_i32_186 c0_i32_187
  let c1_i32_188 : BitVec 32 := 1#32
  let v199 : BitVec 32 := Scalar.select v198 c1_i32_188 c2_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c2_i32_192 : BitVec 32 := 2#32
  let v209 : BitVec 32 := Scalar.addi v208 c2_i32_192
  let c2_i32_193 : BitVec 32 := 2#32
  let v210 : BitVec 32 := Scalar.muli v209 c2_i32_193
  let c256_i32 : BitVec 32 := 256#32
  let v211 : BitVec 32 := Scalar.muli v210 c256_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32_194 : BitVec 32 := 256#32
  let v212 : BitVec 32 := Scalar.muli v178 c256_i32_194
  let v213 : BitVec 32 := Scalar.addi v211 v212
  let v214 : Index := Scalar.indexCast v213
  let c0_195 : Index := 0#32
  ![v214.toNat, 0]
def k0_off27 (k0_t17 : Fin k0_t17_loop.trips) : Fin 2 → Nat :=
  let c0_i32_114 : BitVec 32 := 0#32
  let c1_i32_116 : BitVec 32 := 1#32
  let arg7 : BitVec 32 := Scf.iv c0_i32_114 c1_i32_116 k0_t17
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c2_i32_177 : BitVec 32 := 2#32
  let c0_i32_180 : BitVec 32 := 0#32
  let v185 : BitVec 1 := Scalar.cmpi .sgt c2_i32_177 c0_i32_180
  let v186 : BitVec 32 := Scalar.extui v185
  let c0_i32_181 : BitVec 32 := 0#32
  let v187 : BitVec 1 := Scalar.cmpi .slt c2_i32_177 c0_i32_181
  let v188 : BitVec 32 := Scalar.extui v187
  let v189 : BitVec 32 := Scalar.subi v186 v188
  let v190 : BitVec 1 := Scalar.cmpi .ne v184 v189
  let v191 : BitVec 32 := Scalar.remsi v168 c2_i32_177
  let c0_i32_182 : BitVec 32 := 0#32
  let v192 : BitVec 1 := Scalar.cmpi .ne v191 c0_i32_182
  let v193 : BitVec 1 := Scalar.andi v190 v192
  let v179 : BitVec 32 := Scalar.divsi v168 c2_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c2_i32_185 : BitVec 32 := 2#32
  let v197 : BitVec 32 := Scalar.muli v196 c2_i32_185
  let c2_i32_186 : BitVec 32 := 2#32
  let c0_i32_187 : BitVec 32 := 0#32
  let v198 : BitVec 1 := Scalar.cmpi .eq c2_i32_186 c0_i32_187
  let c1_i32_188 : BitVec 32 := 1#32
  let v199 : BitVec 32 := Scalar.select v198 c1_i32_188 c2_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c2_i32_192 : BitVec 32 := 2#32
  let v209 : BitVec 32 := Scalar.addi v208 c2_i32_192
  let c2_i32_193 : BitVec 32 := 2#32
  let v210 : BitVec 32 := Scalar.muli v209 c2_i32_193
  let c256_i32 : BitVec 32 := 256#32
  let v211 : BitVec 32 := Scalar.muli v210 c256_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32_194 : BitVec 32 := 256#32
  let v212 : BitVec 32 := Scalar.muli v178 c256_i32_194
  let v213 : BitVec 32 := Scalar.addi v211 v212
  let c256_i32_196 : BitVec 32 := 256#32
  let v216 : BitVec 32 := Scalar.addi v213 c256_i32_196
  let v217 : Index := Scalar.indexCast v216
  let c0_197 : Index := 0#32
  ![v217.toNat, 0]
@[reducible] def k0_t18_loop : Scf.Loop 32 :=
  let c0_i32_118 : BitVec 32 := 0#32
  let c4_i32_119 : BitVec 32 := 4#32
  let v133 : BitVec 32 := Scalar.addi c0_i32_118 c4_i32_119
  let c1_i32_120 : BitVec 32 := 1#32
  ⟨c0_i32_118, v133, c1_i32_120⟩
def k0_off28 (k0_t18 : Fin k0_t18_loop.trips) : Fin 2 → Nat :=
  let c0_i32_118 : BitVec 32 := 0#32
  let c1_i32_120 : BitVec 32 := 1#32
  let arg7 : BitVec 32 := Scf.iv c0_i32_118 c1_i32_120 k0_t18
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c4_i32_177 : BitVec 32 := 4#32
  let c0_i32_180 : BitVec 32 := 0#32
  let v185 : BitVec 1 := Scalar.cmpi .sgt c4_i32_177 c0_i32_180
  let v186 : BitVec 32 := Scalar.extui v185
  let c0_i32_181 : BitVec 32 := 0#32
  let v187 : BitVec 1 := Scalar.cmpi .slt c4_i32_177 c0_i32_181
  let v188 : BitVec 32 := Scalar.extui v187
  let v189 : BitVec 32 := Scalar.subi v186 v188
  let v190 : BitVec 1 := Scalar.cmpi .ne v184 v189
  let v191 : BitVec 32 := Scalar.remsi v168 c4_i32_177
  let c0_i32_182 : BitVec 32 := 0#32
  let v192 : BitVec 1 := Scalar.cmpi .ne v191 c0_i32_182
  let v193 : BitVec 1 := Scalar.andi v190 v192
  let v179 : BitVec 32 := Scalar.divsi v168 c4_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c4_i32_185 : BitVec 32 := 4#32
  let v197 : BitVec 32 := Scalar.muli v196 c4_i32_185
  let c4_i32_186 : BitVec 32 := 4#32
  let c0_i32_187 : BitVec 32 := 0#32
  let v198 : BitVec 1 := Scalar.cmpi .eq c4_i32_186 c0_i32_187
  let c1_i32_188 : BitVec 32 := 1#32
  let v199 : BitVec 32 := Scalar.select v198 c1_i32_188 c4_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let v214 : Index := Scalar.indexCast v213
  let c0_195 : Index := 0#32
  ![v214.toNat, 0]
def k0_off29 (k0_t18 : Fin k0_t18_loop.trips) : Fin 2 → Nat :=
  let c0_i32_118 : BitVec 32 := 0#32
  let c1_i32_120 : BitVec 32 := 1#32
  let arg7 : BitVec 32 := Scf.iv c0_i32_118 c1_i32_120 k0_t18
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c4_i32_177 : BitVec 32 := 4#32
  let c0_i32_180 : BitVec 32 := 0#32
  let v185 : BitVec 1 := Scalar.cmpi .sgt c4_i32_177 c0_i32_180
  let v186 : BitVec 32 := Scalar.extui v185
  let c0_i32_181 : BitVec 32 := 0#32
  let v187 : BitVec 1 := Scalar.cmpi .slt c4_i32_177 c0_i32_181
  let v188 : BitVec 32 := Scalar.extui v187
  let v189 : BitVec 32 := Scalar.subi v186 v188
  let v190 : BitVec 1 := Scalar.cmpi .ne v184 v189
  let v191 : BitVec 32 := Scalar.remsi v168 c4_i32_177
  let c0_i32_182 : BitVec 32 := 0#32
  let v192 : BitVec 1 := Scalar.cmpi .ne v191 c0_i32_182
  let v193 : BitVec 1 := Scalar.andi v190 v192
  let v179 : BitVec 32 := Scalar.divsi v168 c4_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c4_i32_185 : BitVec 32 := 4#32
  let v197 : BitVec 32 := Scalar.muli v196 c4_i32_185
  let c4_i32_186 : BitVec 32 := 4#32
  let c0_i32_187 : BitVec 32 := 0#32
  let v198 : BitVec 1 := Scalar.cmpi .eq c4_i32_186 c0_i32_187
  let c1_i32_188 : BitVec 32 := 1#32
  let v199 : BitVec 32 := Scalar.select v198 c1_i32_188 c4_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let c128_i32_196 : BitVec 32 := 128#32
  let v216 : BitVec 32 := Scalar.addi v213 c128_i32_196
  let v217 : Index := Scalar.indexCast v216
  let c0_197 : Index := 0#32
  ![v217.toNat, 0]
@[reducible] def k0_t19_loop : Scf.Loop 32 :=
  let c0_i32_122 : BitVec 32 := 0#32
  let c4_i32_123 : BitVec 32 := 4#32
  let v134 : BitVec 32 := Scalar.addi c0_i32_122 c4_i32_123
  let c1_i32_124 : BitVec 32 := 1#32
  ⟨c0_i32_122, v134, c1_i32_124⟩
def k0_off30 (k0_t19 : Fin k0_t19_loop.trips) : Fin 2 → Nat :=
  let c0_i32_122 : BitVec 32 := 0#32
  let c1_i32_124 : BitVec 32 := 1#32
  let arg7 : BitVec 32 := Scf.iv c0_i32_122 c1_i32_124 k0_t19
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c4_i32_177 : BitVec 32 := 4#32
  let c0_i32_180 : BitVec 32 := 0#32
  let v185 : BitVec 1 := Scalar.cmpi .sgt c4_i32_177 c0_i32_180
  let v186 : BitVec 32 := Scalar.extui v185
  let c0_i32_181 : BitVec 32 := 0#32
  let v187 : BitVec 1 := Scalar.cmpi .slt c4_i32_177 c0_i32_181
  let v188 : BitVec 32 := Scalar.extui v187
  let v189 : BitVec 32 := Scalar.subi v186 v188
  let v190 : BitVec 1 := Scalar.cmpi .ne v184 v189
  let v191 : BitVec 32 := Scalar.remsi v168 c4_i32_177
  let c0_i32_182 : BitVec 32 := 0#32
  let v192 : BitVec 1 := Scalar.cmpi .ne v191 c0_i32_182
  let v193 : BitVec 1 := Scalar.andi v190 v192
  let v179 : BitVec 32 := Scalar.divsi v168 c4_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c4_i32_185 : BitVec 32 := 4#32
  let v197 : BitVec 32 := Scalar.muli v196 c4_i32_185
  let c4_i32_186 : BitVec 32 := 4#32
  let c0_i32_187 : BitVec 32 := 0#32
  let v198 : BitVec 1 := Scalar.cmpi .eq c4_i32_186 c0_i32_187
  let c1_i32_188 : BitVec 32 := 1#32
  let v199 : BitVec 32 := Scalar.select v198 c1_i32_188 c4_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c4_i32_192 : BitVec 32 := 4#32
  let v209 : BitVec 32 := Scalar.addi v208 c4_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let v214 : Index := Scalar.indexCast v213
  let c0_195 : Index := 0#32
  ![v214.toNat, 0]
def k0_off31 (k0_t19 : Fin k0_t19_loop.trips) : Fin 2 → Nat :=
  let c0_i32_122 : BitVec 32 := 0#32
  let c1_i32_124 : BitVec 32 := 1#32
  let arg7 : BitVec 32 := Scf.iv c0_i32_122 c1_i32_124 k0_t19
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c4_i32_177 : BitVec 32 := 4#32
  let c0_i32_180 : BitVec 32 := 0#32
  let v185 : BitVec 1 := Scalar.cmpi .sgt c4_i32_177 c0_i32_180
  let v186 : BitVec 32 := Scalar.extui v185
  let c0_i32_181 : BitVec 32 := 0#32
  let v187 : BitVec 1 := Scalar.cmpi .slt c4_i32_177 c0_i32_181
  let v188 : BitVec 32 := Scalar.extui v187
  let v189 : BitVec 32 := Scalar.subi v186 v188
  let v190 : BitVec 1 := Scalar.cmpi .ne v184 v189
  let v191 : BitVec 32 := Scalar.remsi v168 c4_i32_177
  let c0_i32_182 : BitVec 32 := 0#32
  let v192 : BitVec 1 := Scalar.cmpi .ne v191 c0_i32_182
  let v193 : BitVec 1 := Scalar.andi v190 v192
  let v179 : BitVec 32 := Scalar.divsi v168 c4_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c4_i32_185 : BitVec 32 := 4#32
  let v197 : BitVec 32 := Scalar.muli v196 c4_i32_185
  let c4_i32_186 : BitVec 32 := 4#32
  let c0_i32_187 : BitVec 32 := 0#32
  let v198 : BitVec 1 := Scalar.cmpi .eq c4_i32_186 c0_i32_187
  let c1_i32_188 : BitVec 32 := 1#32
  let v199 : BitVec 32 := Scalar.select v198 c1_i32_188 c4_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c4_i32_192 : BitVec 32 := 4#32
  let v209 : BitVec 32 := Scalar.addi v208 c4_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let c128_i32_196 : BitVec 32 := 128#32
  let v216 : BitVec 32 := Scalar.addi v213 c128_i32_196
  let v217 : Index := Scalar.indexCast v216
  let c0_197 : Index := 0#32
  ![v217.toNat, 0]
@[reducible] def k0_t20_loop : Scf.Loop 32 :=
  let c0_i32_126 : BitVec 32 := 0#32
  let c8_i32_127 : BitVec 32 := 8#32
  let v135 : BitVec 32 := Scalar.addi c0_i32_126 c8_i32_127
  let c1_i32_128 : BitVec 32 := 1#32
  ⟨c0_i32_126, v135, c1_i32_128⟩
def k0_off32 (k0_t20 : Fin k0_t20_loop.trips) : Fin 2 → Nat :=
  let c0_i32_126 : BitVec 32 := 0#32
  let c1_i32_128 : BitVec 32 := 1#32
  let arg7 : BitVec 32 := Scf.iv c0_i32_126 c1_i32_128 k0_t20
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c8_i32_164 : BitVec 32 := 8#32
  let c0_i32_167 : BitVec 32 := 0#32
  let v158 : BitVec 1 := Scalar.cmpi .sgt c8_i32_164 c0_i32_167
  let v159 : BitVec 32 := Scalar.extui v158
  let c0_i32_168 : BitVec 32 := 0#32
  let v160 : BitVec 1 := Scalar.cmpi .slt c8_i32_164 c0_i32_168
  let v161 : BitVec 32 := Scalar.extui v160
  let v162 : BitVec 32 := Scalar.subi v159 v161
  let v163 : BitVec 1 := Scalar.cmpi .ne v157 v162
  let v164 : BitVec 32 := Scalar.remsi arg7 c8_i32_164
  let c0_i32_169 : BitVec 32 := 0#32
  let v165 : BitVec 1 := Scalar.cmpi .ne v164 c0_i32_169
  let v166 : BitVec 1 := Scalar.andi v163 v165
  let v152 : BitVec 32 := Scalar.divsi arg7 c8_i32_164
  let c1_i32_170 : BitVec 32 := 1#32
  let v167 : BitVec 32 := Scalar.subi v152 c1_i32_170
  let v168 : BitVec 32 := Scalar.select v166 v167 v152
  let c2_i32_171 : BitVec 32 := 2#32
  let v169 : BitVec 32 := Scalar.muli v168 c2_i32_171
  let c8_i32_172 : BitVec 32 := 8#32
  let v170 : BitVec 32 := Scalar.muli v169 c8_i32_172
  let c8_i32_173 : BitVec 32 := 8#32
  let c0_i32_174 : BitVec 32 := 0#32
  let v171 : BitVec 1 := Scalar.cmpi .eq c8_i32_173 c0_i32_174
  let c1_i32_175 : BitVec 32 := 1#32
  let v172 : BitVec 32 := Scalar.select v171 c1_i32_175 c8_i32_173
  let v173 : BitVec 32 := Scalar.remsi arg7 v172
  let c0_i32_177 : BitVec 32 := 0#32
  let v175 : BitVec 1 := Scalar.cmpi .slt v173 c0_i32_177
  let c0_i32_178 : BitVec 32 := 0#32
  let v176 : BitVec 1 := Scalar.cmpi .slt v172 c0_i32_178
  let v177 : BitVec 1 := Scalar.xori v175 v176
  let c0_i32_176 : BitVec 32 := 0#32
  let v174 : BitVec 1 := Scalar.cmpi .ne v173 c0_i32_176
  let v178 : BitVec 1 := Scalar.andi v177 v174
  let v179 : BitVec 32 := Scalar.addi v173 v172
  let v180 : BitVec 32 := Scalar.select v178 v179 v173
  let v181 : BitVec 32 := Scalar.addi v170 v180
  let c0_i32_179 : BitVec 32 := 0#32
  let v182 : BitVec 32 := Scalar.addi v181 c0_i32_179
  let c128_i32 : BitVec 32 := 128#32
  let v183 : BitVec 32 := Scalar.muli v182 c128_i32
  let v184 : Index := Scalar.indexCast v183
  let c0_180 : Index := 0#32
  ![v184.toNat, 0]
@[reducible] def k0_t21_loop : Scf.Loop 32 :=
  let c0_i32_130 : BitVec 32 := 0#32
  let c8_i32_131 : BitVec 32 := 8#32
  let v136 : BitVec 32 := Scalar.addi c0_i32_130 c8_i32_131
  let c1_i32_132 : BitVec 32 := 1#32
  ⟨c0_i32_130, v136, c1_i32_132⟩
def k0_off33 (k0_t21 : Fin k0_t21_loop.trips) : Fin 2 → Nat :=
  let c0_i32_130 : BitVec 32 := 0#32
  let c1_i32_132 : BitVec 32 := 1#32
  let arg7 : BitVec 32 := Scf.iv c0_i32_130 c1_i32_132 k0_t21
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c8_i32_164 : BitVec 32 := 8#32
  let c0_i32_167 : BitVec 32 := 0#32
  let v158 : BitVec 1 := Scalar.cmpi .sgt c8_i32_164 c0_i32_167
  let v159 : BitVec 32 := Scalar.extui v158
  let c0_i32_168 : BitVec 32 := 0#32
  let v160 : BitVec 1 := Scalar.cmpi .slt c8_i32_164 c0_i32_168
  let v161 : BitVec 32 := Scalar.extui v160
  let v162 : BitVec 32 := Scalar.subi v159 v161
  let v163 : BitVec 1 := Scalar.cmpi .ne v157 v162
  let v164 : BitVec 32 := Scalar.remsi arg7 c8_i32_164
  let c0_i32_169 : BitVec 32 := 0#32
  let v165 : BitVec 1 := Scalar.cmpi .ne v164 c0_i32_169
  let v166 : BitVec 1 := Scalar.andi v163 v165
  let v152 : BitVec 32 := Scalar.divsi arg7 c8_i32_164
  let c1_i32_170 : BitVec 32 := 1#32
  let v167 : BitVec 32 := Scalar.subi v152 c1_i32_170
  let v168 : BitVec 32 := Scalar.select v166 v167 v152
  let c2_i32_171 : BitVec 32 := 2#32
  let v169 : BitVec 32 := Scalar.muli v168 c2_i32_171
  let c8_i32_172 : BitVec 32 := 8#32
  let v170 : BitVec 32 := Scalar.muli v169 c8_i32_172
  let c8_i32_173 : BitVec 32 := 8#32
  let c0_i32_174 : BitVec 32 := 0#32
  let v171 : BitVec 1 := Scalar.cmpi .eq c8_i32_173 c0_i32_174
  let c1_i32_175 : BitVec 32 := 1#32
  let v172 : BitVec 32 := Scalar.select v171 c1_i32_175 c8_i32_173
  let v173 : BitVec 32 := Scalar.remsi arg7 v172
  let c0_i32_177 : BitVec 32 := 0#32
  let v175 : BitVec 1 := Scalar.cmpi .slt v173 c0_i32_177
  let c0_i32_178 : BitVec 32 := 0#32
  let v176 : BitVec 1 := Scalar.cmpi .slt v172 c0_i32_178
  let v177 : BitVec 1 := Scalar.xori v175 v176
  let c0_i32_176 : BitVec 32 := 0#32
  let v174 : BitVec 1 := Scalar.cmpi .ne v173 c0_i32_176
  let v178 : BitVec 1 := Scalar.andi v177 v174
  let v179 : BitVec 32 := Scalar.addi v173 v172
  let v180 : BitVec 32 := Scalar.select v178 v179 v173
  let v181 : BitVec 32 := Scalar.addi v170 v180
  let c8_i32_179 : BitVec 32 := 8#32
  let v182 : BitVec 32 := Scalar.addi v181 c8_i32_179
  let c128_i32 : BitVec 32 := 128#32
  let v183 : BitVec 32 := Scalar.muli v182 c128_i32
  let v184 : Index := Scalar.indexCast v183
  let c0_180 : Index := 0#32
  ![v184.toNat, 0]
@[reducible] def k0_t22_loop : Scf.Loop 32 :=
  let c0_i32_134 : BitVec 32 := 0#32
  let c4_i32_135 : BitVec 32 := 4#32
  let v137 : BitVec 32 := Scalar.addi c0_i32_134 c4_i32_135
  let c1_i32_136 : BitVec 32 := 1#32
  ⟨c0_i32_134, v137, c1_i32_136⟩
def k0_off34 (k0_t22 : Fin k0_t22_loop.trips) : Fin 2 → Nat :=
  let c0_i32_134 : BitVec 32 := 0#32
  let c1_i32_136 : BitVec 32 := 1#32
  let arg7 : BitVec 32 := Scf.iv c0_i32_134 c1_i32_136 k0_t22
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c4_i32_164 : BitVec 32 := 4#32
  let c0_i32_167 : BitVec 32 := 0#32
  let v158 : BitVec 1 := Scalar.cmpi .sgt c4_i32_164 c0_i32_167
  let v159 : BitVec 32 := Scalar.extui v158
  let c0_i32_168 : BitVec 32 := 0#32
  let v160 : BitVec 1 := Scalar.cmpi .slt c4_i32_164 c0_i32_168
  let v161 : BitVec 32 := Scalar.extui v160
  let v162 : BitVec 32 := Scalar.subi v159 v161
  let v163 : BitVec 1 := Scalar.cmpi .ne v157 v162
  let v164 : BitVec 32 := Scalar.remsi arg7 c4_i32_164
  let c0_i32_169 : BitVec 32 := 0#32
  let v165 : BitVec 1 := Scalar.cmpi .ne v164 c0_i32_169
  let v166 : BitVec 1 := Scalar.andi v163 v165
  let v152 : BitVec 32 := Scalar.divsi arg7 c4_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c1024_i32 : BitVec 32 := 1024#32
  let v211 : BitVec 32 := Scalar.muli v210 c1024_i32
  let c4_i32_171 : BitVec 32 := 4#32
  let c0_i32_172 : BitVec 32 := 0#32
  let v169 : BitVec 1 := Scalar.cmpi .eq c4_i32_171 c0_i32_172
  let c1_i32_173 : BitVec 32 := 1#32
  let v170 : BitVec 32 := Scalar.select v169 c1_i32_173 c4_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32 : BitVec 32 := 256#32
  let v212 : BitVec 32 := Scalar.muli v178 c256_i32
  let v213 : BitVec 32 := Scalar.addi v211 v212
  let v214 : Index := Scalar.indexCast v213
  let c0_194 : Index := 0#32
  ![v214.toNat, 0]
def k0_off35 (k0_t22 : Fin k0_t22_loop.trips) : Fin 2 → Nat :=
  let c0_i32_134 : BitVec 32 := 0#32
  let c1_i32_136 : BitVec 32 := 1#32
  let arg7 : BitVec 32 := Scf.iv c0_i32_134 c1_i32_136 k0_t22
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c4_i32_164 : BitVec 32 := 4#32
  let c0_i32_167 : BitVec 32 := 0#32
  let v158 : BitVec 1 := Scalar.cmpi .sgt c4_i32_164 c0_i32_167
  let v159 : BitVec 32 := Scalar.extui v158
  let c0_i32_168 : BitVec 32 := 0#32
  let v160 : BitVec 1 := Scalar.cmpi .slt c4_i32_164 c0_i32_168
  let v161 : BitVec 32 := Scalar.extui v160
  let v162 : BitVec 32 := Scalar.subi v159 v161
  let v163 : BitVec 1 := Scalar.cmpi .ne v157 v162
  let v164 : BitVec 32 := Scalar.remsi arg7 c4_i32_164
  let c0_i32_169 : BitVec 32 := 0#32
  let v165 : BitVec 1 := Scalar.cmpi .ne v164 c0_i32_169
  let v166 : BitVec 1 := Scalar.andi v163 v165
  let v152 : BitVec 32 := Scalar.divsi arg7 c4_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c1_i32_177 : BitVec 32 := 1#32
  let c0_i32_180 : BitVec 32 := 0#32
  let v185 : BitVec 1 := Scalar.cmpi .sgt c1_i32_177 c0_i32_180
  let v186 : BitVec 32 := Scalar.extui v185
  let c0_i32_181 : BitVec 32 := 0#32
  let v187 : BitVec 1 := Scalar.cmpi .slt c1_i32_177 c0_i32_181
  let v188 : BitVec 32 := Scalar.extui v187
  let v189 : BitVec 32 := Scalar.subi v186 v188
  let v190 : BitVec 1 := Scalar.cmpi .ne v184 v189
  let v191 : BitVec 32 := Scalar.remsi v168 c1_i32_177
  let c0_i32_182 : BitVec 32 := 0#32
  let v192 : BitVec 1 := Scalar.cmpi .ne v191 c0_i32_182
  let v193 : BitVec 1 := Scalar.andi v190 v192
  let v179 : BitVec 32 := Scalar.divsi v168 c1_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c1_i32_185 : BitVec 32 := 1#32
  let v197 : BitVec 32 := Scalar.muli v196 c1_i32_185
  let c1_i32_186 : BitVec 32 := 1#32
  let c0_i32_187 : BitVec 32 := 0#32
  let v198 : BitVec 1 := Scalar.cmpi .eq c1_i32_186 c0_i32_187
  let c1_i32_188 : BitVec 32 := 1#32
  let v199 : BitVec 32 := Scalar.select v198 c1_i32_188 c1_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c1024_i32 : BitVec 32 := 1024#32
  let v211 : BitVec 32 := Scalar.muli v210 c1024_i32
  let c4_i32_171 : BitVec 32 := 4#32
  let c0_i32_172 : BitVec 32 := 0#32
  let v169 : BitVec 1 := Scalar.cmpi .eq c4_i32_171 c0_i32_172
  let c1_i32_173 : BitVec 32 := 1#32
  let v170 : BitVec 32 := Scalar.select v169 c1_i32_173 c4_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32 : BitVec 32 := 256#32
  let v212 : BitVec 32 := Scalar.muli v178 c256_i32
  let v213 : BitVec 32 := Scalar.addi v211 v212
  let c1024_i32_195 : BitVec 32 := 1024#32
  let v216 : BitVec 32 := Scalar.addi v213 c1024_i32_195
  let v217 : Index := Scalar.indexCast v216
  let c0_196 : Index := 0#32
  ![v217.toNat, 0]
@[reducible] def k0_t23_loop : Scf.Loop 32 :=
  let c0_i32_138 : BitVec 32 := 0#32
  let c4_i32_139 : BitVec 32 := 4#32
  let v138 : BitVec 32 := Scalar.addi c0_i32_138 c4_i32_139
  let c1_i32_140 : BitVec 32 := 1#32
  ⟨c0_i32_138, v138, c1_i32_140⟩
def k0_off36 (k0_t23 : Fin k0_t23_loop.trips) : Fin 2 → Nat :=
  let c0_i32_138 : BitVec 32 := 0#32
  let c1_i32_140 : BitVec 32 := 1#32
  let arg7 : BitVec 32 := Scf.iv c0_i32_138 c1_i32_140 k0_t23
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c2_i32_164 : BitVec 32 := 2#32
  let c0_i32_167 : BitVec 32 := 0#32
  let v158 : BitVec 1 := Scalar.cmpi .sgt c2_i32_164 c0_i32_167
  let v159 : BitVec 32 := Scalar.extui v158
  let c0_i32_168 : BitVec 32 := 0#32
  let v160 : BitVec 1 := Scalar.cmpi .slt c2_i32_164 c0_i32_168
  let v161 : BitVec 32 := Scalar.extui v160
  let v162 : BitVec 32 := Scalar.subi v159 v161
  let v163 : BitVec 1 := Scalar.cmpi .ne v157 v162
  let v164 : BitVec 32 := Scalar.remsi arg7 c2_i32_164
  let c0_i32_169 : BitVec 32 := 0#32
  let v165 : BitVec 1 := Scalar.cmpi .ne v164 c0_i32_169
  let v166 : BitVec 1 := Scalar.andi v163 v165
  let v152 : BitVec 32 := Scalar.divsi arg7 c2_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c2_i32_177 : BitVec 32 := 2#32
  let c0_i32_180 : BitVec 32 := 0#32
  let v185 : BitVec 1 := Scalar.cmpi .sgt c2_i32_177 c0_i32_180
  let v186 : BitVec 32 := Scalar.extui v185
  let c0_i32_181 : BitVec 32 := 0#32
  let v187 : BitVec 1 := Scalar.cmpi .slt c2_i32_177 c0_i32_181
  let v188 : BitVec 32 := Scalar.extui v187
  let v189 : BitVec 32 := Scalar.subi v186 v188
  let v190 : BitVec 1 := Scalar.cmpi .ne v184 v189
  let v191 : BitVec 32 := Scalar.remsi v168 c2_i32_177
  let c0_i32_182 : BitVec 32 := 0#32
  let v192 : BitVec 1 := Scalar.cmpi .ne v191 c0_i32_182
  let v193 : BitVec 1 := Scalar.andi v190 v192
  let v179 : BitVec 32 := Scalar.divsi v168 c2_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c2_i32_185 : BitVec 32 := 2#32
  let v197 : BitVec 32 := Scalar.muli v196 c2_i32_185
  let c2_i32_186 : BitVec 32 := 2#32
  let c0_i32_187 : BitVec 32 := 0#32
  let v198 : BitVec 1 := Scalar.cmpi .eq c2_i32_186 c0_i32_187
  let c1_i32_188 : BitVec 32 := 1#32
  let v199 : BitVec 32 := Scalar.select v198 c1_i32_188 c2_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c512_i32 : BitVec 32 := 512#32
  let v211 : BitVec 32 := Scalar.muli v210 c512_i32
  let c2_i32_171 : BitVec 32 := 2#32
  let c0_i32_172 : BitVec 32 := 0#32
  let v169 : BitVec 1 := Scalar.cmpi .eq c2_i32_171 c0_i32_172
  let c1_i32_173 : BitVec 32 := 1#32
  let v170 : BitVec 32 := Scalar.select v169 c1_i32_173 c2_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32 : BitVec 32 := 256#32
  let v212 : BitVec 32 := Scalar.muli v178 c256_i32
  let v213 : BitVec 32 := Scalar.addi v211 v212
  let v214 : Index := Scalar.indexCast v213
  let c0_194 : Index := 0#32
  ![v214.toNat, 0]
def k0_off37 (k0_t23 : Fin k0_t23_loop.trips) : Fin 2 → Nat :=
  let c0_i32_138 : BitVec 32 := 0#32
  let c1_i32_140 : BitVec 32 := 1#32
  let arg7 : BitVec 32 := Scf.iv c0_i32_138 c1_i32_140 k0_t23
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c2_i32_164 : BitVec 32 := 2#32
  let c0_i32_167 : BitVec 32 := 0#32
  let v158 : BitVec 1 := Scalar.cmpi .sgt c2_i32_164 c0_i32_167
  let v159 : BitVec 32 := Scalar.extui v158
  let c0_i32_168 : BitVec 32 := 0#32
  let v160 : BitVec 1 := Scalar.cmpi .slt c2_i32_164 c0_i32_168
  let v161 : BitVec 32 := Scalar.extui v160
  let v162 : BitVec 32 := Scalar.subi v159 v161
  let v163 : BitVec 1 := Scalar.cmpi .ne v157 v162
  let v164 : BitVec 32 := Scalar.remsi arg7 c2_i32_164
  let c0_i32_169 : BitVec 32 := 0#32
  let v165 : BitVec 1 := Scalar.cmpi .ne v164 c0_i32_169
  let v166 : BitVec 1 := Scalar.andi v163 v165
  let v152 : BitVec 32 := Scalar.divsi arg7 c2_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c2_i32_177 : BitVec 32 := 2#32
  let c0_i32_180 : BitVec 32 := 0#32
  let v185 : BitVec 1 := Scalar.cmpi .sgt c2_i32_177 c0_i32_180
  let v186 : BitVec 32 := Scalar.extui v185
  let c0_i32_181 : BitVec 32 := 0#32
  let v187 : BitVec 1 := Scalar.cmpi .slt c2_i32_177 c0_i32_181
  let v188 : BitVec 32 := Scalar.extui v187
  let v189 : BitVec 32 := Scalar.subi v186 v188
  let v190 : BitVec 1 := Scalar.cmpi .ne v184 v189
  let v191 : BitVec 32 := Scalar.remsi v168 c2_i32_177
  let c0_i32_182 : BitVec 32 := 0#32
  let v192 : BitVec 1 := Scalar.cmpi .ne v191 c0_i32_182
  let v193 : BitVec 1 := Scalar.andi v190 v192
  let v179 : BitVec 32 := Scalar.divsi v168 c2_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c2_i32_185 : BitVec 32 := 2#32
  let v197 : BitVec 32 := Scalar.muli v196 c2_i32_185
  let c2_i32_186 : BitVec 32 := 2#32
  let c0_i32_187 : BitVec 32 := 0#32
  let v198 : BitVec 1 := Scalar.cmpi .eq c2_i32_186 c0_i32_187
  let c1_i32_188 : BitVec 32 := 1#32
  let v199 : BitVec 32 := Scalar.select v198 c1_i32_188 c2_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c512_i32 : BitVec 32 := 512#32
  let v211 : BitVec 32 := Scalar.muli v210 c512_i32
  let c2_i32_171 : BitVec 32 := 2#32
  let c0_i32_172 : BitVec 32 := 0#32
  let v169 : BitVec 1 := Scalar.cmpi .eq c2_i32_171 c0_i32_172
  let c1_i32_173 : BitVec 32 := 1#32
  let v170 : BitVec 32 := Scalar.select v169 c1_i32_173 c2_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32 : BitVec 32 := 256#32
  let v212 : BitVec 32 := Scalar.muli v178 c256_i32
  let v213 : BitVec 32 := Scalar.addi v211 v212
  let c512_i32_195 : BitVec 32 := 512#32
  let v216 : BitVec 32 := Scalar.addi v213 c512_i32_195
  let v217 : Index := Scalar.indexCast v216
  let c0_196 : Index := 0#32
  ![v217.toNat, 0]
@[reducible] def k0_t24_loop : Scf.Loop 32 :=
  let c0_i32_142 : BitVec 32 := 0#32
  let c4_i32_143 : BitVec 32 := 4#32
  let v139 : BitVec 32 := Scalar.addi c0_i32_142 c4_i32_143
  let c1_i32_144 : BitVec 32 := 1#32
  ⟨c0_i32_142, v139, c1_i32_144⟩
def k0_off38 (k0_t24 : Fin k0_t24_loop.trips) : Fin 2 → Nat :=
  let c0_i32_142 : BitVec 32 := 0#32
  let c1_i32_144 : BitVec 32 := 1#32
  let arg7 : BitVec 32 := Scf.iv c0_i32_142 c1_i32_144 k0_t24
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c4_i32_177 : BitVec 32 := 4#32
  let c0_i32_180 : BitVec 32 := 0#32
  let v185 : BitVec 1 := Scalar.cmpi .sgt c4_i32_177 c0_i32_180
  let v186 : BitVec 32 := Scalar.extui v185
  let c0_i32_181 : BitVec 32 := 0#32
  let v187 : BitVec 1 := Scalar.cmpi .slt c4_i32_177 c0_i32_181
  let v188 : BitVec 32 := Scalar.extui v187
  let v189 : BitVec 32 := Scalar.subi v186 v188
  let v190 : BitVec 1 := Scalar.cmpi .ne v184 v189
  let v191 : BitVec 32 := Scalar.remsi v168 c4_i32_177
  let c0_i32_182 : BitVec 32 := 0#32
  let v192 : BitVec 1 := Scalar.cmpi .ne v191 c0_i32_182
  let v193 : BitVec 1 := Scalar.andi v190 v192
  let v179 : BitVec 32 := Scalar.divsi v168 c4_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c4_i32_185 : BitVec 32 := 4#32
  let v197 : BitVec 32 := Scalar.muli v196 c4_i32_185
  let c4_i32_186 : BitVec 32 := 4#32
  let c0_i32_187 : BitVec 32 := 0#32
  let v198 : BitVec 1 := Scalar.cmpi .eq c4_i32_186 c0_i32_187
  let c1_i32_188 : BitVec 32 := 1#32
  let v199 : BitVec 32 := Scalar.select v198 c1_i32_188 c4_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c256_i32 : BitVec 32 := 256#32
  let v211 : BitVec 32 := Scalar.muli v210 c256_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32_194 : BitVec 32 := 256#32
  let v212 : BitVec 32 := Scalar.muli v178 c256_i32_194
  let v213 : BitVec 32 := Scalar.addi v211 v212
  let v214 : Index := Scalar.indexCast v213
  let c0_195 : Index := 0#32
  ![v214.toNat, 0]
def k0_off39 (k0_t24 : Fin k0_t24_loop.trips) : Fin 2 → Nat :=
  let c0_i32_142 : BitVec 32 := 0#32
  let c1_i32_144 : BitVec 32 := 1#32
  let arg7 : BitVec 32 := Scf.iv c0_i32_142 c1_i32_144 k0_t24
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c4_i32_177 : BitVec 32 := 4#32
  let c0_i32_180 : BitVec 32 := 0#32
  let v185 : BitVec 1 := Scalar.cmpi .sgt c4_i32_177 c0_i32_180
  let v186 : BitVec 32 := Scalar.extui v185
  let c0_i32_181 : BitVec 32 := 0#32
  let v187 : BitVec 1 := Scalar.cmpi .slt c4_i32_177 c0_i32_181
  let v188 : BitVec 32 := Scalar.extui v187
  let v189 : BitVec 32 := Scalar.subi v186 v188
  let v190 : BitVec 1 := Scalar.cmpi .ne v184 v189
  let v191 : BitVec 32 := Scalar.remsi v168 c4_i32_177
  let c0_i32_182 : BitVec 32 := 0#32
  let v192 : BitVec 1 := Scalar.cmpi .ne v191 c0_i32_182
  let v193 : BitVec 1 := Scalar.andi v190 v192
  let v179 : BitVec 32 := Scalar.divsi v168 c4_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c4_i32_185 : BitVec 32 := 4#32
  let v197 : BitVec 32 := Scalar.muli v196 c4_i32_185
  let c4_i32_186 : BitVec 32 := 4#32
  let c0_i32_187 : BitVec 32 := 0#32
  let v198 : BitVec 1 := Scalar.cmpi .eq c4_i32_186 c0_i32_187
  let c1_i32_188 : BitVec 32 := 1#32
  let v199 : BitVec 32 := Scalar.select v198 c1_i32_188 c4_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c256_i32 : BitVec 32 := 256#32
  let v211 : BitVec 32 := Scalar.muli v210 c256_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c256_i32_194 : BitVec 32 := 256#32
  let v212 : BitVec 32 := Scalar.muli v178 c256_i32_194
  let v213 : BitVec 32 := Scalar.addi v211 v212
  let c256_i32_196 : BitVec 32 := 256#32
  let v216 : BitVec 32 := Scalar.addi v213 c256_i32_196
  let v217 : Index := Scalar.indexCast v216
  let c0_197 : Index := 0#32
  ![v217.toNat, 0]
@[reducible] def k0_t25_loop : Scf.Loop 32 :=
  let c0_i32_146 : BitVec 32 := 0#32
  let c8_i32_147 : BitVec 32 := 8#32
  let v140 : BitVec 32 := Scalar.addi c0_i32_146 c8_i32_147
  let c1_i32_148 : BitVec 32 := 1#32
  ⟨c0_i32_146, v140, c1_i32_148⟩
def k0_off40 (k0_t25 : Fin k0_t25_loop.trips) : Fin 2 → Nat :=
  let c0_i32_146 : BitVec 32 := 0#32
  let c1_i32_148 : BitVec 32 := 1#32
  let arg7 : BitVec 32 := Scf.iv c0_i32_146 c1_i32_148 k0_t25
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c8_i32_177 : BitVec 32 := 8#32
  let c0_i32_180 : BitVec 32 := 0#32
  let v185 : BitVec 1 := Scalar.cmpi .sgt c8_i32_177 c0_i32_180
  let v186 : BitVec 32 := Scalar.extui v185
  let c0_i32_181 : BitVec 32 := 0#32
  let v187 : BitVec 1 := Scalar.cmpi .slt c8_i32_177 c0_i32_181
  let v188 : BitVec 32 := Scalar.extui v187
  let v189 : BitVec 32 := Scalar.subi v186 v188
  let v190 : BitVec 1 := Scalar.cmpi .ne v184 v189
  let v191 : BitVec 32 := Scalar.remsi v168 c8_i32_177
  let c0_i32_182 : BitVec 32 := 0#32
  let v192 : BitVec 1 := Scalar.cmpi .ne v191 c0_i32_182
  let v193 : BitVec 1 := Scalar.andi v190 v192
  let v179 : BitVec 32 := Scalar.divsi v168 c8_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c8_i32_185 : BitVec 32 := 8#32
  let v197 : BitVec 32 := Scalar.muli v196 c8_i32_185
  let c8_i32_186 : BitVec 32 := 8#32
  let c0_i32_187 : BitVec 32 := 0#32
  let v198 : BitVec 1 := Scalar.cmpi .eq c8_i32_186 c0_i32_187
  let c1_i32_188 : BitVec 32 := 1#32
  let v199 : BitVec 32 := Scalar.select v198 c1_i32_188 c8_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let v214 : Index := Scalar.indexCast v213
  let c0_195 : Index := 0#32
  ![v214.toNat, 0]
def k0_off41 (k0_t25 : Fin k0_t25_loop.trips) : Fin 2 → Nat :=
  let c0_i32_146 : BitVec 32 := 0#32
  let c1_i32_148 : BitVec 32 := 1#32
  let arg7 : BitVec 32 := Scf.iv c0_i32_146 c1_i32_148 k0_t25
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c1_i32_164 : BitVec 32 := 1#32
  let c0_i32_167 : BitVec 32 := 0#32
  let v158 : BitVec 1 := Scalar.cmpi .sgt c1_i32_164 c0_i32_167
  let v159 : BitVec 32 := Scalar.extui v158
  let c0_i32_168 : BitVec 32 := 0#32
  let v160 : BitVec 1 := Scalar.cmpi .slt c1_i32_164 c0_i32_168
  let v161 : BitVec 32 := Scalar.extui v160
  let v162 : BitVec 32 := Scalar.subi v159 v161
  let v163 : BitVec 1 := Scalar.cmpi .ne v157 v162
  let v164 : BitVec 32 := Scalar.remsi arg7 c1_i32_164
  let c0_i32_169 : BitVec 32 := 0#32
  let v165 : BitVec 1 := Scalar.cmpi .ne v164 c0_i32_169
  let v166 : BitVec 1 := Scalar.andi v163 v165
  let v152 : BitVec 32 := Scalar.divsi arg7 c1_i32_164
  let c1_i32_170 : BitVec 32 := 1#32
  let v167 : BitVec 32 := Scalar.subi v152 c1_i32_170
  let v168 : BitVec 32 := Scalar.select v166 v167 v152
  let c0_i32_178 : BitVec 32 := 0#32
  let v180 : BitVec 1 := Scalar.cmpi .sgt v168 c0_i32_178
  let v181 : BitVec 32 := Scalar.extui v180
  let c0_i32_179 : BitVec 32 := 0#32
  let v182 : BitVec 1 := Scalar.cmpi .slt v168 c0_i32_179
  let v183 : BitVec 32 := Scalar.extui v182
  let v184 : BitVec 32 := Scalar.subi v181 v183
  let c8_i32_177 : BitVec 32 := 8#32
  let c0_i32_180 : BitVec 32 := 0#32
  let v185 : BitVec 1 := Scalar.cmpi .sgt c8_i32_177 c0_i32_180
  let v186 : BitVec 32 := Scalar.extui v185
  let c0_i32_181 : BitVec 32 := 0#32
  let v187 : BitVec 1 := Scalar.cmpi .slt c8_i32_177 c0_i32_181
  let v188 : BitVec 32 := Scalar.extui v187
  let v189 : BitVec 32 := Scalar.subi v186 v188
  let v190 : BitVec 1 := Scalar.cmpi .ne v184 v189
  let v191 : BitVec 32 := Scalar.remsi v168 c8_i32_177
  let c0_i32_182 : BitVec 32 := 0#32
  let v192 : BitVec 1 := Scalar.cmpi .ne v191 c0_i32_182
  let v193 : BitVec 1 := Scalar.andi v190 v192
  let v179 : BitVec 32 := Scalar.divsi v168 c8_i32_177
  let c1_i32_183 : BitVec 32 := 1#32
  let v194 : BitVec 32 := Scalar.subi v179 c1_i32_183
  let v195 : BitVec 32 := Scalar.select v193 v194 v179
  let c2_i32_184 : BitVec 32 := 2#32
  let v196 : BitVec 32 := Scalar.muli v195 c2_i32_184
  let c8_i32_185 : BitVec 32 := 8#32
  let v197 : BitVec 32 := Scalar.muli v196 c8_i32_185
  let c8_i32_186 : BitVec 32 := 8#32
  let c0_i32_187 : BitVec 32 := 0#32
  let v198 : BitVec 1 := Scalar.cmpi .eq c8_i32_186 c0_i32_187
  let c1_i32_188 : BitVec 32 := 1#32
  let v199 : BitVec 32 := Scalar.select v198 c1_i32_188 c8_i32_186
  let v200 : BitVec 32 := Scalar.remsi v168 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let v208 : BitVec 32 := Scalar.addi v197 v207
  let c0_i32_192 : BitVec 32 := 0#32
  let v209 : BitVec 32 := Scalar.addi v208 c0_i32_192
  let c2_i32_193 : BitVec 32 := 2#32
  let v210 : BitVec 32 := Scalar.muli v209 c2_i32_193
  let c128_i32 : BitVec 32 := 128#32
  let v211 : BitVec 32 := Scalar.muli v210 c128_i32
  let c1_i32_171 : BitVec 32 := 1#32
  let c0_i32_172 : BitVec 32 := 0#32
  let v169 : BitVec 1 := Scalar.cmpi .eq c1_i32_171 c0_i32_172
  let c1_i32_173 : BitVec 32 := 1#32
  let v170 : BitVec 32 := Scalar.select v169 c1_i32_173 c1_i32_171
  let v171 : BitVec 32 := Scalar.remsi arg7 v170
  let c0_i32_175 : BitVec 32 := 0#32
  let v173 : BitVec 1 := Scalar.cmpi .slt v171 c0_i32_175
  let c0_i32_176 : BitVec 32 := 0#32
  let v174 : BitVec 1 := Scalar.cmpi .slt v170 c0_i32_176
  let v175 : BitVec 1 := Scalar.xori v173 v174
  let c0_i32_174 : BitVec 32 := 0#32
  let v172 : BitVec 1 := Scalar.cmpi .ne v171 c0_i32_174
  let v176 : BitVec 1 := Scalar.andi v175 v172
  let v177 : BitVec 32 := Scalar.addi v171 v170
  let v178 : BitVec 32 := Scalar.select v176 v177 v171
  let c128_i32_194 : BitVec 32 := 128#32
  let v212 : BitVec 32 := Scalar.muli v178 c128_i32_194
  let v213 : BitVec 32 := Scalar.addi v211 v212
  let c128_i32_196 : BitVec 32 := 128#32
  let v216 : BitVec 32 := Scalar.addi v213 c128_i32_196
  let v217 : Index := Scalar.indexCast v216
  let c0_197 : Index := 0#32
  ![v217.toNat, 0]
@[reducible] def k0_t26_loop : Scf.Loop 32 :=
  let c0_i32_150 : BitVec 32 := 0#32
  let c16_i32_151 : BitVec 32 := 16#32
  let v141 : BitVec 32 := Scalar.addi c0_i32_150 c16_i32_151
  let c1_i32_152 : BitVec 32 := 1#32
  ⟨c0_i32_150, v141, c1_i32_152⟩
def k0_off42 (k0_t26 : Fin k0_t26_loop.trips) : Fin 2 → Nat :=
  let c0_i32_150 : BitVec 32 := 0#32
  let c1_i32_152 : BitVec 32 := 1#32
  let arg7 : BitVec 32 := Scf.iv c0_i32_150 c1_i32_152 k0_t26
  let c0_i32_165 : BitVec 32 := 0#32
  let v153 : BitVec 1 := Scalar.cmpi .sgt arg7 c0_i32_165
  let v154 : BitVec 32 := Scalar.extui v153
  let c0_i32_166 : BitVec 32 := 0#32
  let v155 : BitVec 1 := Scalar.cmpi .slt arg7 c0_i32_166
  let v156 : BitVec 32 := Scalar.extui v155
  let v157 : BitVec 32 := Scalar.subi v154 v156
  let c16_i32_164 : BitVec 32 := 16#32
  let c0_i32_167 : BitVec 32 := 0#32
  let v158 : BitVec 1 := Scalar.cmpi .sgt c16_i32_164 c0_i32_167
  let v159 : BitVec 32 := Scalar.extui v158
  let c0_i32_168 : BitVec 32 := 0#32
  let v160 : BitVec 1 := Scalar.cmpi .slt c16_i32_164 c0_i32_168
  let v161 : BitVec 32 := Scalar.extui v160
  let v162 : BitVec 32 := Scalar.subi v159 v161
  let v163 : BitVec 1 := Scalar.cmpi .ne v157 v162
  let v164 : BitVec 32 := Scalar.remsi arg7 c16_i32_164
  let c0_i32_169 : BitVec 32 := 0#32
  let v165 : BitVec 1 := Scalar.cmpi .ne v164 c0_i32_169
  let v166 : BitVec 1 := Scalar.andi v163 v165
  let v152 : BitVec 32 := Scalar.divsi arg7 c16_i32_164
  let c1_i32_170 : BitVec 32 := 1#32
  let v167 : BitVec 32 := Scalar.subi v152 c1_i32_170
  let v168 : BitVec 32 := Scalar.select v166 v167 v152
  let c2_i32_171 : BitVec 32 := 2#32
  let v169 : BitVec 32 := Scalar.muli v168 c2_i32_171
  let c16_i32_172 : BitVec 32 := 16#32
  let v170 : BitVec 32 := Scalar.muli v169 c16_i32_172
  let c16_i32_173 : BitVec 32 := 16#32
  let c0_i32_174 : BitVec 32 := 0#32
  let v171 : BitVec 1 := Scalar.cmpi .eq c16_i32_173 c0_i32_174
  let c1_i32_175 : BitVec 32 := 1#32
  let v172 : BitVec 32 := Scalar.select v171 c1_i32_175 c16_i32_173
  let v173 : BitVec 32 := Scalar.remsi arg7 v172
  let c0_i32_177 : BitVec 32 := 0#32
  let v175 : BitVec 1 := Scalar.cmpi .slt v173 c0_i32_177
  let c0_i32_178 : BitVec 32 := 0#32
  let v176 : BitVec 1 := Scalar.cmpi .slt v172 c0_i32_178
  let v177 : BitVec 1 := Scalar.xori v175 v176
  let c0_i32_176 : BitVec 32 := 0#32
  let v174 : BitVec 1 := Scalar.cmpi .ne v173 c0_i32_176
  let v178 : BitVec 1 := Scalar.andi v177 v174
  let v179 : BitVec 32 := Scalar.addi v173 v172
  let v180 : BitVec 32 := Scalar.select v178 v179 v173
  let v181 : BitVec 32 := Scalar.addi v170 v180
  let c0_i32_179 : BitVec 32 := 0#32
  let v182 : BitVec 32 := Scalar.addi v181 c0_i32_179
  let c128_i32 : BitVec 32 := 128#32
  let v183 : BitVec 32 := Scalar.muli v182 c128_i32
  let v184 : Index := Scalar.indexCast v183
  let c0_180 : Index := 0#32
  ![v184.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x2048x256 : Shape := ⟨3, ![16, 2048, 256]⟩
abbrev S2048x256 : Shape := ⟨2, ![2048, 256]⟩
abbrev S256x256 : Shape := ⟨2, ![256, 256]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S1x2048x256 : Shape := ⟨3, ![1, 2048, 256]⟩
abbrev S16x2048x256x1 : Shape := ⟨4, ![16, 2048, 256, 1]⟩
abbrev S1 : Shape := ⟨1, ![1]⟩
abbrev S1x1x1x1 : Shape := ⟨4, ![1, 1, 1, 1]⟩
abbrev S16x256x2048 : Shape := ⟨3, ![16, 256, 2048]⟩
abbrev S1x256x2048 : Shape := ⟨3, ![1, 256, 2048]⟩
abbrev S16x256 : Shape := ⟨2, ![16, 256]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S2048x256, .f32⟩
  | .hbm, ⟨2, _⟩ => ⟨S256x256, .f32⟩
  | .hbm, ⟨3, _⟩ => ⟨S256x2048, .f32⟩
  | .hbm, ⟨4, _⟩ => ⟨S256x256, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S256x256, .f32⟩
  | .hbm, ⟨10, _⟩ => ⟨S256x256, .f32⟩
  | .hbm, ⟨11, _⟩ => ⟨S16x2048x256, .f32⟩
  | .hbm, ⟨12, _⟩ => ⟨S16x2048x256, .f32⟩
  | .hbm, ⟨13, _⟩ => ⟨S1x2048x256, .f32⟩
  | .hbm, ⟨14, _⟩ => ⟨S16x2048x256, .f32⟩
  | .hbm, ⟨15, _⟩ => ⟨S16x2048x256, .i32⟩
  | .hbm, ⟨16, _⟩ => ⟨S16x2048x256, .f32⟩
  | .hbm, ⟨17, _⟩ => ⟨S16x2048x256, .i32⟩
  | .hbm, ⟨18, _⟩ => ⟨S_, .i32⟩
  | .hbm, ⟨19, _⟩ => ⟨S16x2048x256, .i32⟩
  | .hbm, ⟨20, _⟩ => ⟨S16x2048x256, .i1⟩
  | .hbm, ⟨21, _⟩ => ⟨S_, .i32⟩
  | .hbm, ⟨22, _⟩ => ⟨S16x2048x256, .i32⟩
  | .hbm, ⟨23, _⟩ => ⟨S16x2048x256, .i32⟩
  | .hbm, ⟨24, _⟩ => ⟨S16x2048x256, .i32⟩
  | .hbm, ⟨25, _⟩ => ⟨S16x2048x256x1, .i32⟩
  | .hbm, ⟨26, _⟩ => ⟨S1, .i32⟩
  | .hbm, ⟨27, _⟩ => ⟨S_, .i32⟩
  | .hbm, ⟨28, _⟩ => ⟨S16x2048x256x1, .i32⟩
  | .hbm, ⟨29, _⟩ => ⟨S16x2048x256x1, .i1⟩
  | .hbm, ⟨30, _⟩ => ⟨S1x1x1x1, .i32⟩
  | .hbm, ⟨31, _⟩ => ⟨S16x2048x256x1, .i32⟩
  | .hbm, ⟨32, _⟩ => ⟨S16x2048x256x1, .i1⟩
  | .hbm, ⟨33, _⟩ => ⟨S16x2048x256x1, .i1⟩
  | .hbm, ⟨34, _⟩ => ⟨S_, .i1⟩
  | .hbm, ⟨35, _⟩ => ⟨S16x2048x256, .i1⟩
  | .hbm, ⟨36, _⟩ => ⟨S16x2048x256, .f32⟩
  | .hbm, ⟨37, _⟩ => ⟨S_, .f32⟩
  | .hbm, ⟨38, _⟩ => ⟨S16x2048x256, .f32⟩
  | .hbm, ⟨39, _⟩ => ⟨S16x2048x256, .f32⟩
  | .hbm, ⟨40, _⟩ => ⟨S16x2048x256, .f32⟩
  | .hbm, ⟨41, _⟩ => ⟨S16x256x2048, .f32⟩
  | .hbm, ⟨42, _⟩ => ⟨S1x256x2048, .f32⟩
  | .hbm, ⟨43, _⟩ => ⟨S16x256x2048, .f32⟩
  | .hbm, ⟨44, _⟩ => ⟨S16x256x2048, .f32⟩
  | .hbm, ⟨45, _⟩ => ⟨S_, .f32⟩
  | .hbm, ⟨46, _⟩ => ⟨S16x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call1_v0 : Ref sig .tc := ⟨.hbm, 15, rfl⟩
abbrev main_call1_v1_0 : Ref sig .tc := ⟨.hbm, 16, rfl⟩
abbrev main_v10 : Ref sig .tc := ⟨.hbm, 17, rfl⟩
abbrev main_call2_c : Ref sig .tc := ⟨.hbm, 18, rfl⟩
abbrev main_call2_v0 : Ref sig .tc := ⟨.hbm, 19, rfl⟩
abbrev main_call2_v1 : Ref sig .tc := ⟨.hbm, 20, rfl⟩
abbrev main_call2_c_0 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_c_1 : Ref sig .tc := ⟨.hbm, 26, rfl⟩
abbrev main_call2_c_2 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_3 : Ref sig .tc := ⟨.hbm, 34, rfl⟩
abbrev main_call2_v12 : Ref sig .tc := ⟨.hbm, 35, rfl⟩
abbrev main_call2_v13 : Ref sig .tc := ⟨.hbm, 36, rfl⟩
abbrev main_call2_cst : Ref sig .tc := ⟨.hbm, 37, rfl⟩
abbrev main_call2_v14 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.WindowRuns.lean ====
/-
  Runs of short programs over one buffer, stated by the values it holds. A load of a window reads that window of
  the values; a store puts its payload over the window; and two programs built of them — one rewrites a window in
  place, the other rewrites two windows of one size from each other — have a run each, for any buffer, any window
  and any payload. A counted loop whose trips rewrite the buffer applies them one after another.
-/
module

public import Idealize.ShloMosaic.Lib.VecWindow
public import Idealize.ShloMosaic.Lib.LaneScatter.Fold
public import Idealize.ShloMosaic.Lib.Memref

@[expose] public section

set_option maxRecDepth 16384

noncomputable section

namespace Cert.WindowRuns

open Idealize.ShloMosaic
open Idealize.SL Idealize.SL.RA Idealize.SL.Sem Idealize.SL.ProofMode
open Idealize.SL.BI (sProp)
open scoped Idealize.SL.BI
open Idealize.SL.BI.BIBase Idealize.SL.BI.Laws
open Idealize.ShloMosaic.LaneScatter (iter)

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {cs : CoreSpace} {s : Shape} {e : EltTy} {α : Type} {Q : α → sProp (MT nD τ sig Ix Val Name U Lvl)}

/-- A load of a window of a buffer held at `x` reads that window of `x`, and the buffer stays. -/
theorem load_owns {m : Memref sig c.2.kind cs s e} {off size : Fin s.rank → ℕ} {inb : ∀ a, off a + size a ≤ s.size a}
    {hl : m.view.LoadsAt (Rect.unit off size inb).toLoadRect}
    {k : ((Rect.unit off size inb).shape.Idx → Val e) → Prog (TpuEff nD τ sig Val Λ c.2) α} {q : PosShare TreeShare} (x : s.Idx → Val e) :
    owns c m q x
      ⊢ iprop((owns c m q x -∗ wp frame (wpE defs 𝒱 c bd) E (k (VecWindow.window x off size inb)) Q)
        -∗ wp frame (wpE defs 𝒱 c bd) E (.op (.load m (Rect.unit off size inb).toLoadRect hl) k) Q) := by
  unfold owns
  iintro ⟨%f, %hf, Hf⟩ HK
  iapply (wp_load_rect 𝒱 c bd E (m := m) (r := Rect.unit off size inb) (hl := hl) (k := k) (S := m.view.set) (f := f)
    (View.set_slice_subset _ _)) $$ [Hf]
  · iexact Hf
  iintro Hf
  have h : (m.access (Rect.unit off size inb)).read Val f = VecWindow.window x off size inb := by
    rw [← hf]; rfl
  rw [h]
  iapply HK
  iexists f
  isplitr
  · ipureintro; exact hf
  iexact Hf

/-- A store over a window of a buffer held at `x` leaves `x` with the payload put over the window. -/
theorem store_owns {m : Memref sig c.2.kind cs s e} {off size : Fin s.rank → ℕ} {inb : ∀ a, off a + size a ≤ s.size a}
    {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} (x : s.Idx → Val e) :
    owns c m fullShare x
      ⊢ iprop((owns c m fullShare (VecWindow.put x off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, Hf⟩ HK
  iapply (wp_store_writes₀ 𝒱 c bd E (m := m) (r := Rect.unit off size inb) (w := w) (hx := hx) (hm := hm) (k := k) (S := m.view.set) (f := f)
    (View.set_slice_subset _ _)) $$ [Hf]
  · iexact Hf
  iintro Hf
  iapply HK
  iexists (m.view.writes Val f [⟨Rect.unit off size inb, w⟩])
  isplitr
  · ipureintro
    rw [View.read_writes_cons_put _ _ inb _ _ rfl]
    rw [View.writes_nil, hf]
  iexact Hf

/-- The window of all the values. -/
theorem window_full {A : Type} (x : s.Idx → A) {off : Fin s.rank → ℕ} (inb : ∀ a, off a + s.size a ≤ s.size a) :
    VecWindow.window x off s.size inb = x := by
  funext y
  exact congrArg x (funext fun a => Fin.ext (by
    show off a + 1 * (y a).val = (y a).val
    have := inb a; omega))

/-- A payload over all the values. -/
theorem put_full {A : Type} (x : s.Idx → A) {off : Fin s.rank → ℕ} (inb : ∀ a, off a + s.size a ≤ s.size a) (w : s.Idx → A) :
    VecWindow.put x off s.size w = w := by
  have h := VecWindow.window_put_same x off s.size inb w
  rwa [window_full] at h

/-- A load of a whole buffer held at `x` reads `x`. -/
theorem load_all {m : Memref sig c.2.kind cs s e} {off : Fin s.rank → ℕ} {inb : ∀ a, off a + s.size a ≤ s.size a}
    {hl : m.view.LoadsAt (Rect.unit off s.size inb).toLoadRect}
    {k : ((Rect.unit off s.size inb).shape.Idx → Val e) → Prog (TpuEff nD τ sig Val Λ c.2) α} {q : PosShare TreeShare} (x : s.Idx → Val e) :
    owns c m q x
      ⊢ iprop((owns c m q x -∗ wp frame (wpE defs 𝒱 c bd) E (k x) Q)
        -∗ wp frame (wpE defs 𝒱 c bd) E (.op (.load m (Rect.unit off s.size inb).toLoadRect hl) k) Q) := by
  have h := load_owns (defs := defs) 𝒱 c bd E (hl := hl) (k := k) (q := q) (Q := Q) x
  rwa [window_full] at h

/-- A store over a whole buffer leaves the payload. -/
theorem store_all {m : Memref sig c.2.kind cs s e} {off : Fin s.rank → ℕ} {inb : ∀ a, off a + s.size a ≤ s.size a}
    {w : (Rect.unit off s.size inb).shape.Idx → Val e}
    {hx : (m.access (Rect.unit off s.size inb)).Stores Finset.univ} {hm : Finset.univ = Finset.univ ∨ ∀ a, (Rect.unit off s.size inb).stride a = 1}
    {k : PUnit → Prog (TpuEff nD τ sig Val Λ c.2) α} (x : s.Idx → Val e) :
    owns c m fullShare x
      ⊢ iprop((owns c m fullShare (w : s.Idx → Val e) -∗ wp frame (wpE defs 𝒱 c bd) E (k ⟨⟩) Q)
        -∗ wp frame (wpE defs 𝒱 c bd) E (.op (.store m (Rect.unit off s.size inb) w Finset.univ hx hm) k) Q) := by
  have h := store_owns (defs := defs) 𝒱 c bd E (w := w) (hx := hx) (hm := hm) (k := k) (Q := Q) x
  rwa [put_full x inb] at h

/-! ## The two programs -/

/-- Values of a window of `s` of sizes `size`. -/
abbrev Win (s : Shape) (size : Fin s.rank → ℕ) (e : EltTy) : Type := (⟨s.rank, size⟩ : Shape).Idx → Val e

section Programs

variable {p : Proc τ} (m : Memref sig p.kind cs s e) (off off' size : Fin s.rank → ℕ)
  (inb : ∀ a, off a + size a ≤ s.size a) (inb' : ∀ a, off' a + size a ≤ s.size a)
  (hl : m.view.LoadsAt (Rect.unit off size inb).toLoadRect) (hl' : m.view.LoadsAt (Rect.unit off' size inb').toLoadRect)
  (hx : (m.access (Rect.unit off size inb)).Stores Finset.univ) (hx' : (m.access (Rect.unit off' size inb')).Stores Finset.univ)

/-- Rewrite one window in place: load it, load it once more, store `f` of what the first load read. -/
def inPlace (f : Win (Val := Val) s size e → Win (Val := Val) s size e) : Prog (TpuEff nD τ sig Val Λ p) PUnit := do
  let v ← Prog.lift (.load m (Rect.unit off size inb).toLoadRect hl)
  let _ ← Prog.lift (.load m (Rect.unit off size inb).toLoadRect hl)
  Prog.lift (.store m (Rect.unit off size inb) (f v) Finset.univ hx (.inl rfl))
  pure ⟨⟩

/-- Rewrite two windows from each other: load both, then store one function of the two over the first and another over
the second, each store behind one more load of its window. -/
def exchange (f g : Win (Val := Val) s size e → Win (Val := Val) s size e → Win (Val := Val) s size e) :
    Prog (TpuEff nD τ sig Val Λ p) PUnit := do
  let v ← Prog.lift (.load m (Rect.unit off size inb).toLoadRect hl)
  let w ← Prog.lift (.load m (Rect.unit off' size inb').toLoadRect hl')
  let _ ← Prog.lift (.load m (Rect.unit off size inb).toLoadRect hl)
  Prog.lift (.store m (Rect.unit off size inb) (f v w) Finset.univ hx (.inl rfl))
  let _ ← Prog.lift (.load m (Rect.unit off' size inb').toLoadRect hl')
  Prog.lift (.store m (Rect.unit off' size inb') (g v w) Finset.univ hx' (.inl rfl))
  pure ⟨⟩

end Programs

/-- What `inPlace` makes of the buffer's values. -/
def inPlaceStep {A : Type} (off size : Fin s.rank → ℕ) (inb : ∀ a, off a + size a ≤ s.size a)
    (f : ((⟨s.rank, size⟩ : Shape).Idx → A) → (⟨s.rank, size⟩ : Shape).Idx → A) (x : s.Idx → A) : s.Idx → A :=
  VecWindow.put x off size (f (VecWindow.window x off size inb))

/-- What `exchange` makes of the buffer's values. -/
def exchangeStep {A : Type} (off off' size : Fin s.rank → ℕ) (inb : ∀ a, off a + size a ≤ s.size a) (inb' : ∀ a, off' a + size a ≤ s.size a)
    (f g : ((⟨s.rank, size⟩ : Shape).Idx → A) → ((⟨s.rank, size⟩ : Shape).Idx → A) → (⟨s.rank, size⟩ : Shape).Idx → A) (x : s.Idx → A) :
    s.Idx → A :=
  VecWindow.put (VecWindow.put x off size (f (VecWindow.window x off size inb) (VecWindow.window x off' size inb'))) off' size
    (g (VecWindow.window x off size inb) (VecWindow.window x off' size inb'))

/-- The run of `inPlace`. -/
theorem inPlace_run {m : Memref sig c.2.kind cs s e} {off size : Fin s.rank → ℕ} {inb : ∀ a, off a + size a ≤ s.size a}
    {hl : m.view.LoadsAt (Rect.unit off size inb).toLoadRect} {hx : (m.access (Rect.unit off size inb)).Stores Finset.univ}
    {f : Win (Val := Val) s size e → Win (Val := Val) s size e} (x : s.Idx → Val e) :
    owns c m fullShare x
      ⊢ wp frame (wpE (Ix := Ix) (Name := Name) (U := U) (Lvl := Lvl) defs 𝒱 c bd) E (inPlace m off size inb hl hx f)
        (fun _ => owns c m fullShare (inPlaceStep off size inb f x)) := by
  iintro H
  iapply (load_owns 𝒱 c bd E x) $$ [H]
  · iexact H
  iintro H
  iapply (load_owns 𝒱 c bd E x) $$ [H]
  · iexact H
  iintro H
  iapply (store_owns 𝒱 c bd E x) $$ [H]
  · iexact H
  iintro H
  iapply (le_wp_ret frame (wpE defs 𝒱 c bd) E (PUnit.unit) _)
  iexact H

/-- The run of `exchange`. -/
theorem exchange_run {m : Memref sig c.2.kind cs s e} {off off' size : Fin s.rank → ℕ}
    {inb : ∀ a, off a + size a ≤ s.size a} {inb' : ∀ a, off' a + size a ≤ s.size a}
    {hl : m.view.LoadsAt (Rect.unit off size inb).toLoadRect} {hl' : m.view.LoadsAt (Rect.unit off' size inb').toLoadRect}
    {hx : (m.access (Rect.unit off size inb)).Stores Finset.univ} {hx' : (m.access (Rect.unit off' size inb')).Stores Finset.univ}
    {f g : Win (Val := Val) s size e → Win (Val := Val) s size e → Win (Val := Val) s size e} (x : s.Idx → Val e) :
    owns c m fullShare x
      ⊢ wp frame (wpE (Ix := Ix) (Name := Name) (U := U) (Lvl := Lvl) defs 𝒱 c bd) E (exchange m off off' size inb inb' hl hl' hx hx' f g)
        (fun _ => owns c m fullShare (exchangeStep off off' size inb inb' f g x)) := by
  iintro H
  iapply (load_owns 𝒱 c bd E x) $$ [H]
  · iexact H
  iintro H
  iapply (load_owns 𝒱 c bd E x) $$ [H]
  · iexact H
  iintro H
  iapply (load_owns 𝒱 c bd E x) $$ [H]
  · iexact H
  iintro H
  iapply (store_owns 𝒱 c bd E x) $$ [H]
  · iexact H
  iintro H
  iapply (load_owns 𝒱 c bd E _) $$ [H]
  · iexact H
  iintro H
  iapply (store_owns 𝒱 c bd E _) $$ [H]
  · iexact H
  iintro H
  iapply (le_wp_ret frame (wpE defs 𝒱 c bd) E (PUnit.unit) _)
  iexact H

/-! ## A loop -/

/-- The trips of a loop, each applied to what the ones before it left. -/
def runTrips {A : Type} {n : ℕ} (step : Fin n → A → A) (x : A) : A := (List.finRange n).foldl (fun y k => step k y) x

/-- A loop whose every trip takes the values of one buffer from `y` to `step k y` takes them from `x` to all its trips
in order. -/
theorem loop_run {m : Memref sig c.2.kind cs s e} {w : Nat} {l : Scf.Loop w} {hok : l.OK}
    {body : Fin l.trips → Unit → Prog (TpuEff nD τ sig Val Λ c.2) Unit} (step : Fin l.trips → (s.Idx → Val e) → s.Idx → Val e)
    (run : ∀ k y, owns c m fullShare y
      ⊢ wp frame (wpE (Ix := Ix) (Name := Name) (U := U) (Lvl := Lvl) defs 𝒱 c bd) E (body k ()) (fun _ => owns c m fullShare (step k y)))
    (x : s.Idx → Val e) :
    owns c m fullShare x
      ⊢ wp frame (wpE (Ix := Ix) (Name := Name) (U := U) (Lvl := Lvl) defs 𝒱 c bd) E (Scf.Loop.for l hok () body)
        (fun _ => owns c m fullShare (runTrips step x)) := by
  have h := Scf.wp_for frame (wpE (Ix := Ix) (Name := Name) (U := U) (Lvl := Lvl) defs 𝒱 c bd) E l.lb l.ub l.st hok () body
    (fun n _ => owns c m fullShare (((List.finRange l.trips).take n).foldl (fun y k => step k y) x))
    (fun k _ => by
      have e : (List.finRange l.trips).take (k.val + 1) = (List.finRange l.trips).take k.val ++ [k] := by
        rw [List.take_add_one]
        simp
      rw [e, List.foldl_append]
      exact run k _)
    (Q := fun _ => owns c m fullShare (runTrips step x))
  iintro H
  iapply h
  isplitl [H]
  · iexact H
  iintro %_ H
  have e : (List.finRange l.trips).take l.trips = List.finRange l.trips := List.take_of_length_le (by simp)
  rw [e]
  iexact H

/-- The values after a loop of `inPlace` trips. -/
def inPlaceLoop {A : Type} {n : ℕ} (off : Fin n → Fin s.rank → ℕ) (size : Fin s.rank → ℕ) (inb : ∀ k, ∀ a, off k a + size a ≤ s.size a)
    (f : ((⟨s.rank, size⟩ : Shape).Idx → A) → (⟨s.rank, size⟩ : Shape).Idx → A) (x : s.Idx → A) : s.Idx → A :=
  runTrips (fun k => inPlaceStep (off k) size (inb k) f) x

/-- The values after a loop of `exchange` trips. -/
def exchangeLoop {A : Type} {n : ℕ} (off off' : Fin n → Fin s.rank → ℕ) (size : Fin s.rank → ℕ) (inb : ∀ k, ∀ a, off k a + size a ≤ s.size a)
    (inb' : ∀ k, ∀ a, off' k a + size a ≤ s.size a)
    (f g : ((⟨s.rank, size⟩ : Shape).Idx → A) → ((⟨s.rank, size⟩ : Shape).Idx → A) → (⟨s.rank, size⟩ : Shape).Idx → A) (x : s.Idx → A) :
    s.Idx → A :=
  runTrips (fun k => exchangeStep (off k) (off' k) size (inb k) (inb' k) f g) x

section LoopPrograms

variable {p : Proc τ} (m : Memref sig p.kind cs s e) {w : Nat} (l : Scf.Loop w) (hok : l.OK) (off off' : Fin l.trips → Fin s.rank → ℕ)
  (size : Fin s.rank → ℕ) (inb : ∀ k, ∀ a, off k a + size a ≤ s.size a) (inb' : ∀ k, ∀ a, off' k a + size a ≤ s.size a)
  (hl : ∀ k, m.view.LoadsAt (Rect.unit (off k) size (inb k)).toLoadRect) (hl' : ∀ k, m.view.LoadsAt (Rect.unit (off' k) size (inb' k)).toLoadRect)
  (hx : ∀ k, (m.access (Rect.unit (off k) size (inb k))).Stores Finset.univ) (hx' : ∀ k, (m.access (Rect.unit (off' k) size (inb' k))).Stores Finset.univ)

/-- A loop of `inPlace` trips. -/
def inPlaceFor (f : Win (Val := Val) s size e → Win (Val := Val) s size e) : Prog (TpuEff nD τ sig Val Λ p) Unit :=
  Scf.Loop.for l hok () fun k _ => inPlace m (off k) size (inb k) (hl k) (hx k) f

/-- A loop of `exchange` trips. -/
def exchangeFor (f g : Win (Val := Val) s size e → Win (Val := Val) s size e → Win (Val := Val) s size e) :
    Prog (TpuEff nD τ sig Val Λ p) Unit :=
  Scf.Loop.for l hok () fun k _ => exchange m (off k) (off' k) size (inb k) (inb' k) (hl k) (hl' k) (hx k) (hx' k) f g

end LoopPrograms

/-- The run of a loop of `inPlace` trips. -/
theorem inPlaceFor_run {m : Memref sig c.2.kind cs s e} {w : Nat} {l : Scf.Loop w} {hok : l.OK}
    {off : Fin l.trips → Fin s.rank → ℕ} {size : Fin s.rank → ℕ} {inb : ∀ k, ∀ a, off k a + size a ≤ s.size a}
    {hl : ∀ k, m.view.LoadsAt (Rect.unit (off k) size (inb k)).toLoadRect} {hx : ∀ k, (m.access (Rect.unit (off k) size (inb k))).Stores Finset.univ}
    {f : Win (Val := Val) s size e → Win (Val := Val) s size e} (x : s.Idx → Val e) :
    owns c m fullShare x
      ⊢ wp frame (wpE (Ix := Ix) (Name := Name) (U := U) (Lvl := Lvl) defs 𝒱 c bd) E (inPlaceFor m l hok off size inb hl hx f)
        (fun _ => owns c m fullShare (inPlaceLoop off size inb f x)) :=
  loop_run 𝒱 c bd E _ (fun _ y => inPlace_run 𝒱 c bd E y) x

/-- The run of a loop of `exchange` trips. -/
theorem exchangeFor_run {m : Memref sig c.2.kind cs s e} {w : Nat} {l : Scf.Loop w} {hok : l.OK}
    {off off' : Fin l.trips → Fin s.rank → ℕ} {size : Fin s.rank → ℕ} {inb : ∀ k, ∀ a, off k a + size a ≤ s.size a}
    {inb' : ∀ k, ∀ a, off' k a + size a ≤ s.size a}
    {hl : ∀ k, m.view.LoadsAt (Rect.unit (off k) size (inb k)).toLoadRect} {hl' : ∀ k, m.view.LoadsAt (Rect.unit (off' k) size (inb' k)).toLoadRect}
    {hx : ∀ k, (m.access (Rect.unit (off k) size (inb k))).Stores Finset.univ} {hx' : ∀ k, (m.access (Rect.unit (off' k) size (inb' k))).Stores Finset.univ}
    {f g : Win (Val := Val) s size e → Win (Val := Val) s size e → Win (Val := Val) s size e} (x : s.Idx → Val e) :
    owns c m fullShare x
      ⊢ wp frame (wpE (Ix := Ix) (Name := Name) (U := U) (Lvl := Lvl) defs 𝒱 c bd) E (exchangeFor m l hok off off' size inb inb' hl hl' hx hx' f g)
        (fun _ => owns c m fullShare (exchangeLoop off off' size inb inb' f g x)) :=
  loop_run 𝒱 c bd E _ (fun _ y => exchange_run 𝒱 c bd E y) x

/-- One program after another, beside resources the first one leaves alone. -/
theorem next_run {β : Type} {A P R : sProp (MT nD τ sig Ix Val Name U Lvl)} {a : Prog (TpuEff nD τ sig Val Λ c.2) β}
    {b : β → Prog (TpuEff nD τ sig Val Λ c.2) α}
    (ha : A ⊢ wp frame (wpE (Ix := Ix) (Name := Name) (U := U) (Lvl := Lvl) defs 𝒱 c bd) E a (fun _ => R))
    (hb : ∀ r, iprop(P ∗ R) ⊢ wp frame (wpE (Ix := Ix) (Name := Name) (U := U) (Lvl := Lvl) defs 𝒱 c bd) E (b r) Q) :
    iprop(P ∗ A) ⊢ wp frame (wpE (Ix := Ix) (Name := Name) (U := U) (Lvl := Lvl) defs 𝒱 c bd) E (a >>= b) Q := by
  rw [wp_bind]
  iintro ⟨HP, HA⟩
  iapply (wp_wand_r frame (wpE defs 𝒱 c bd) E)
  isplitl [HA]
  · iapply ha; iexact HA
  iintro %r HR
  iapply (hb r)
  isplitl [HP]
  · iexact HP
  iexact HR

end Cert.WindowRuns
-- ==== Proof.BlockStages.lean ====
/-
  The compare-exchange stages of a block of 128 rows as the kernel spells them, each once. A stage at distance 8, 16, 32 or
  64 cuts the block into pieces of that many rows and puts the lesser and the greater of every two neighbouring pieces back
  together. A stage at distance 1, 2 or 4 rotates the rows both ways and selects by masks over the rows. Three programs of
  such stages are what the kernel runs on a block: the ascending and the descending merge of the block, and the sort of its
  halves of 64 rows.
-/
module

public import Idealize.ShloMosaic.PureOps.Vector
public import Idealize.ShloMosaic.PureOps.ShapeOps

@[expose] public section

set_option maxRecDepth 16384

noncomputable section

namespace Cert.Stages

open Idealize.ShloMosaic

variable {F : FTy → Type} [FloatOps F]

/-- A block: 128 rows of 256 columns. -/
abbrev SBlock : Shape := ⟨2, ![128, 256]⟩
/-- `h` rows of 256 columns. -/
abbrev SRows (h : ℕ) : Shape := ⟨2, ![h, 256]⟩
/-- One entry per row of a block. -/
abbrev SMask : Shape := ⟨2, ![128, 1]⟩

/-- `h` rows from row `o` on lie in the block. -/
theorem slices_rows {o h : ℕ} (ho : o + h ≤ 128) : SBlock.Slices ![o, 0] (SRows h) :=
  ⟨rfl, fun a => by
    match a with
    | ⟨0, _⟩ => exact ho
    | ⟨1, _⟩ => exact (show 0 + 256 ≤ 256 by decide)⟩

/-- The `h` rows from row `o` on. -/
def rowsFrom (v : FVec F SBlock .f32) (o h : ℕ) (ho : o + h ≤ 128) : FVec F (SRows h) .f32 :=
  extractStridedSlice (SRows h) ![o, 0] v (slices_rows ho)

/-- Piece `q` of a stage at distance `h`: pieces `2 p` and `2 p + 1` are the lesser and the greater of the block's pieces
`2 p` and `2 p + 1`, the lesser first where pair `p` ascends. -/
def pairPiece (h n : ℕ) (hn : 2 * n * h = 128) (asc : ℕ → Bool) (v : FVec F SBlock .f32) (q : Fin (2 * n)) : FVec F (SRows h) .f32 :=
  have hq : 2 * (q.val / 2) + 1 + 1 ≤ 2 * n := by have := q.isLt; omega
  have hb : (2 * (q.val / 2) + 1) * h + h ≤ 128 := by
    have := Nat.mul_le_mul_right h hq
    rw [Nat.add_mul] at this
    omega
  have ha : 2 * (q.val / 2) * h + h ≤ 128 := by
    have := hb
    rw [Nat.add_mul (2 * (q.val / 2))] at this
    omega
  match asc (q.val / 2) == (q.val % 2 == 0) with
  | true => minimumf (rowsFrom v (2 * (q.val / 2) * h) h ha) (rowsFrom v ((2 * (q.val / 2) + 1) * h) h hb)
  | false => maximumf (rowsFrom v (2 * (q.val / 2) * h) h ha) (rowsFrom v ((2 * (q.val / 2) + 1) * h) h hb)

/-- A stage at distance `h`: `n` pairs of pieces, pair `p` ascending where `asc p`. -/
def pairStage (h n : ℕ) (hn : 2 * n * h = 128) (asc : ℕ → Bool)
    (hc : Shape.Concatenates (List.replicate (2 * n) (SRows h)) SBlock 0) (v : FVec F SBlock .f32) : FVec F SBlock .f32 :=
  concatenate SBlock 0 (List.ofFn fun q : Fin (2 * n) => (⟨SRows h, pairPiece h n hn asc v q⟩ : (s : Shape) × (s.Idx → F .f32)))
    (by
      have e : (List.ofFn fun q : Fin (2 * n) => (⟨SRows h, pairPiece h n hn asc v q⟩ : (s : Shape) × (s.Idx → F .f32))).map (·.1)
          = List.replicate (2 * n) (SRows h) := by
        rw [List.map_ofFn]
        exact List.ofFn_const _ _
      rw [e]; exact hc)

/-- The rows moved up by `j`, the first `j` to the end. -/
def rotUp (j k : ℕ) (hjk : j + k = 128) (hc : Shape.Concatenates [SRows k, SRows j] SBlock 0) (v : FVec F SBlock .f32) : FVec F SBlock .f32 :=
  concatenate SBlock 0 [⟨SRows k, rowsFrom v j k (by omega)⟩, ⟨SRows j, rowsFrom v 0 j (by omega)⟩] hc

/-- The rows moved down by `j`, the last `j` to the start. -/
def rotDown (j k : ℕ) (hjk : j + k = 128) (hc : Shape.Concatenates [SRows j, SRows k] SBlock 0) (v : FVec F SBlock .f32) : FVec F SBlock .f32 :=
  concatenate SBlock 0 [⟨SRows j, rowsFrom v k j (by omega)⟩, ⟨SRows k, rowsFrom v 0 k (by omega)⟩] hc

/-- The values of a block stored at the block's own shape. -/
def stored (s : Shape) (h : s.ShapeCasts s) (v : FVec F s .f32) : FVec F s .f32 := shapeCast s v h
/-- The lesser of two windows, entry by entry, as stored. -/
def lesser (s : Shape) (h : s.ShapeCasts s) (v w : FVec F s .f32) : FVec F s .f32 := stored s h (minimumf v w)
/-- The greater of two windows, entry by entry, as stored. -/
def greater (s : Shape) (h : s.ShapeCasts s) (v w : FVec F s .f32) : FVec F s .f32 := stored s h (maximumf v w)

theorem blockCasts : SBlock.ShapeCasts SBlock := rfl
theorem rows256Casts : (SRows 256).ShapeCasts (SRows 256) := rfl

theorem maskCasts : SMask.ShapeCasts SMask := by decide
theorem maskBroadcasts : SMask.Broadcasts SBlock := by decide

/-- By each row's entry of the mask, one block's row or the other's. -/
def pick (m : IVec SMask 1) (x y : FVec F SBlock .f32) : FVec F SBlock .f32 :=
  select (broadcastTo SBlock (shapeCast SMask m maskCasts) maskBroadcasts) x y

/-- A stage at distance `j` under masks: `lo` tells the rows whose partner lies below, `mi` the rows that keep the lesser. -/
def maskStage (j k : ℕ) (hjk : j + k = 128) (hu : Shape.Concatenates [SRows k, SRows j] SBlock 0)
    (hd : Shape.Concatenates [SRows j, SRows k] SBlock 0) (lo mi : IVec SMask 1) (v : FVec F SBlock .f32) : FVec F SBlock .f32 :=
  pick mi (minimumf v (pick lo (rotUp j k hjk hu v) (rotDown j k hjk hd v)))
    (maximumf v (pick lo (rotUp j k hjk hu v) (rotDown j k hjk hd v)))

/-- An ascending stage at distance `j`. -/
def ascStage (j k : ℕ) (hjk : j + k = 128) (hu : Shape.Concatenates [SRows k, SRows j] SBlock 0)
    (hd : Shape.Concatenates [SRows j, SRows k] SBlock 0) (lo : IVec SMask 1) (v : FVec F SBlock .f32) : FVec F SBlock .f32 :=
  pick lo (minimumf v (rotUp j k hjk hu v)) (maximumf v (rotDown j k hjk hd v))

/-- A descending stage at distance `j`. -/
def descStage (j k : ℕ) (hjk : j + k = 128) (hu : Shape.Concatenates [SRows k, SRows j] SBlock 0)
    (hd : Shape.Concatenates [SRows j, SRows k] SBlock 0) (lo : IVec SMask 1) (v : FVec F SBlock .f32) : FVec F SBlock .f32 :=
  pick lo (maximumf v (rotUp j k hjk hu v)) (minimumf v (rotDown j k hjk hd v))

theorem pieces64 : Shape.Concatenates (List.replicate (2 * 1) (SRows 64)) SBlock 0 := by decide
theorem pieces32 : Shape.Concatenates (List.replicate (2 * 2) (SRows 32)) SBlock 0 := by decide
theorem pieces16 : Shape.Concatenates (List.replicate (2 * 4) (SRows 16)) SBlock 0 := by decide
theorem pieces8 : Shape.Concatenates (List.replicate (2 * 8) (SRows 8)) SBlock 0 := by decide
theorem up4 : Shape.Concatenates [SRows 124, SRows 4] SBlock 0 := by decide
theorem down4 : Shape.Concatenates [SRows 4, SRows 124] SBlock 0 := by decide
theorem up2 : Shape.Concatenates [SRows 126, SRows 2] SBlock 0 := by decide
theorem down2 : Shape.Concatenates [SRows 2, SRows 126] SBlock 0 := by decide
theorem up1 : Shape.Concatenates [SRows 127, SRows 1] SBlock 0 := by decide
theorem down1 : Shape.Concatenates [SRows 1, SRows 127] SBlock 0 := by decide

/-- The number of each row, as a word. -/
def rowNumber : IVec SMask 32 := iota .tc SMask 32 [0] (by decide)
/-- The rows whose number has the bit `b` clear. -/
def bitClear (b : BitVec 32) : IVec SMask 1 := cmpi .eq (andi rowNumber (broadcast SMask b)) (broadcast SMask 0#32)
/-- The rows whose number has both bits clear or both set. -/
def bitsAgree (b b' : BitVec 32) : IVec SMask 1 := xori (xori (bitClear b) (bitClear b')) (constantI SMask 1 1#1)

/-- The stages at distances 64, 32, 16 and 8, all pairs one way. -/
def halves (d : Bool) (v : FVec F SBlock .f32) : FVec F SBlock .f32 :=
  pairStage 8 8 rfl (fun _ => d) pieces8 (pairStage 16 4 rfl (fun _ => d) pieces16
    (pairStage 32 2 rfl (fun _ => d) pieces32 (pairStage 64 1 rfl (fun _ => d) pieces64 v)))

/-- The ascending merge of a block: the stages at distances 64, 32, 16, 8, 4, 2, 1. -/
def mergeAsc (v : FVec F SBlock .f32) : FVec F SBlock .f32 :=
  stored SBlock blockCasts <| ascStage 1 127 rfl up1 down1 (bitClear 1#32) (ascStage 2 126 rfl up2 down2 (bitClear 2#32) (ascStage 4 124 rfl up4 down4 (bitClear 4#32) (halves true v)))

/-- The descending merge of a block. -/
def mergeDesc (v : FVec F SBlock .f32) : FVec F SBlock .f32 :=
  stored SBlock blockCasts <| descStage 1 127 rfl up1 down1 (bitClear 1#32) (descStage 2 126 rfl up2 down2 (bitClear 2#32) (descStage 4 124 rfl up4 down4 (bitClear 4#32) (halves false v)))

/-- The stages at distances 4, 2 and 1 under masks. -/
def mask421 (lo1 lo2 lo4 mi1 mi2 mi4 : IVec SMask 1) (v : FVec F SBlock .f32) : FVec F SBlock .f32 :=
  maskStage 1 127 rfl up1 down1 lo1 mi1 (maskStage 2 126 rfl up2 down2 lo2 mi2 (maskStage 4 124 rfl up4 down4 lo4 mi4 v))

/-- Pair `p` of the pieces ascends where bit `b` of its number is clear. -/
def evenAt (b : ℕ) (p : ℕ) : Bool := p / 2 ^ b % 2 == 0

/-- The sort of the block's halves, the first ascending and the second descending: the stages of the blocks of 2, 4, 8, 16,
32 and 64 rows. -/
def sortHalves (v : FVec F SBlock .f32) : FVec F SBlock .f32 :=
  let lo1 := bitClear 1#32
  let lo2 := bitClear 2#32
  let lo4 := bitClear 4#32
  let level (b : BitVec 32) := mask421 (F := F) lo1 lo2 lo4 (bitsAgree 1#32 b) (bitsAgree 2#32 b) (bitsAgree 4#32 b)
  let v1 := maskStage 1 127 rfl up1 down1 lo1 (bitsAgree 1#32 2#32) v
  let v2 := maskStage 1 127 rfl up1 down1 lo1 (bitsAgree 1#32 4#32) (maskStage 2 126 rfl up2 down2 lo2 (bitsAgree 2#32 4#32) v1)
  let v3 := level 8#32 v2
  let v4 := level 16#32 (pairStage 8 8 rfl (evenAt 0) pieces8 v3)
  let v5 := level 32#32 (pairStage 8 8 rfl (evenAt 1) pieces8 (pairStage 16 4 rfl (evenAt 0) pieces16 v4))
  stored SBlock blockCasts <| level 64#32
    (pairStage 8 8 rfl (evenAt 2) pieces8 (pairStage 16 4 rfl (evenAt 1) pieces16 (pairStage 32 2 rfl (evenAt 0) pieces32 v5)))

end Cert.Stages
-- ==== Proof.IdealVals.lean ====
/-
  What the kernel's body makes of the values of its scratch buffer, as a function of them: the twenty-six loops of the
  sort, level by level, and the array the body leaves in its output block.
-/
module

public import proofs.«01_k».proof.Proof.Gen.KernelIdeal.Skeleton
public import proofs.«01_k».proof.Proof.WindowRuns
public import proofs.«01_k».proof.Proof.BlockStages

@[expose] public section

set_option maxRecDepth 16384

noncomputable section

namespace Cert.KernelIdeal.Gen

open Idealize.ShloMosaic
open Cert.WindowRuns Cert.Stages

variable {F : FTy → Type} [FloatOps F]

/-- A loop that rewrites blocks of 128 rows in place by `f`. -/
def rowsIn {n : ℕ} (off : Fin n → Fin S2048x256.rank → ℕ) (inb : ∀ k, ∀ a, off k a + S128x256.size a ≤ S2048x256.size a)
    (f : FVec F SBlock .f32 → FVec F SBlock .f32) (x : FVec F S2048x256 .f32) : FVec F S2048x256 .f32 :=
  inPlaceLoop (s := S2048x256) (A := F .f32) off S128x256.size inb f x

/-- Of two windows, what goes over the first where the pair ascends (`true`) or descends. -/
def first (asc : Bool) (s : Shape) (h : s.ShapeCasts s) : FVec F s .f32 → FVec F s .f32 → FVec F s .f32 :=
  match asc with
  | true => lesser s h
  | false => greater s h

/-- A loop that compares and exchanges two blocks of 128 rows per trip. -/
def rows128 {n : ℕ} (off off' : Fin n → Fin S2048x256.rank → ℕ) (inb : ∀ k, ∀ a, off k a + S128x256.size a ≤ S2048x256.size a)
    (inb' : ∀ k, ∀ a, off' k a + S128x256.size a ≤ S2048x256.size a) (asc : Bool) (x : FVec F S2048x256 .f32) : FVec F S2048x256 .f32 :=
  exchangeLoop (s := S2048x256) (A := F .f32) off off' S128x256.size inb inb' (first asc SBlock blockCasts) (first (!asc) SBlock blockCasts) x

/-- A loop that compares and exchanges two blocks of 256 rows per trip. -/
def rows256 {n : ℕ} (off off' : Fin n → Fin S2048x256.rank → ℕ) (inb : ∀ k, ∀ a, off k a + S256x256.size a ≤ S2048x256.size a)
    (inb' : ∀ k, ∀ a, off' k a + S256x256.size a ≤ S2048x256.size a) (asc : Bool) (x : FVec F S2048x256 .f32) : FVec F S2048x256 .f32 :=
  exchangeLoop (s := S2048x256) (A := F .f32) off off' S256x256.size inb inb' (first asc (SRows 256) rows256Casts)
    (first (!asc) (SRows 256) rows256Casts) x

/-- The sort of the blocks of 64 rows. -/
def level64 (x : FVec F S2048x256 .f32) : FVec F S2048x256 .f32 :=
  rowsIn k0_off1 k0_off1_inb sortHalves x

/-- The merges of the blocks of 128 rows, ascending and descending in turn. -/
def level128 (x : FVec F S2048x256 .f32) : FVec F S2048x256 .f32 :=
  let x1 := rowsIn k0_off2 k0_off2_inb mergeAsc x
  rowsIn k0_off3 k0_off3_inb mergeDesc x1

/-- The merges of the blocks of 256 rows, ascending and descending in turn. -/
def level256 (x : FVec F S2048x256 .f32) : FVec F S2048x256 .f32 :=
  let x1 := rows128 k0_off4 k0_off5 k0_off4_inb k0_off5_inb true x
  let x2 := rows128 k0_off6 k0_off7 k0_off6_inb k0_off7_inb false x1
  let x3 := rowsIn k0_off8 k0_off8_inb mergeAsc x2
  rowsIn k0_off9 k0_off9_inb mergeDesc x3

/-- The merges of the blocks of 512 rows: all exchanges but the last. -/
def level512a (x : FVec F S2048x256 .f32) : FVec F S2048x256 .f32 :=
  let x1 := rows256 k0_off10 k0_off11 k0_off10_inb k0_off11_inb true x
  let x2 := rows256 k0_off12 k0_off13 k0_off12_inb k0_off13_inb false x1
  rows128 k0_off14 k0_off15 k0_off14_inb k0_off15_inb true x2

/-- The merges of the blocks of 512 rows: the last exchange and the merges in the blocks. -/
def level512b (x3 : FVec F S2048x256 .f32) : FVec F S2048x256 .f32 :=
  let x4 := rows128 k0_off16 k0_off17 k0_off16_inb k0_off17_inb false x3
  let x5 := rowsIn k0_off18 k0_off18_inb mergeAsc x4
  rowsIn k0_off19 k0_off19_inb mergeDesc x5

/-- The merges of the blocks of 1024 rows: all loops but the last. -/
def level1024a (x : FVec F S2048x256 .f32) : FVec F S2048x256 .f32 :=
  let x1 := rows256 k0_off20 k0_off21 k0_off20_inb k0_off21_inb true x
  let x2 := rows256 k0_off22 k0_off23 k0_off22_inb k0_off23_inb false x1
  let x3 := rows256 k0_off24 k0_off25 k0_off24_inb k0_off25_inb true x2
  let x4 := rows256 k0_off26 k0_off27 k0_off26_inb k0_off27_inb false x3
  let x5 := rows128 k0_off28 k0_off29 k0_off28_inb k0_off29_inb true x4
  let x6 := rows128 k0_off30 k0_off31 k0_off30_inb k0_off31_inb false x5
  rowsIn k0_off32 k0_off32_inb mergeAsc x6

/-- The merges of the blocks of 1024 rows: the last loop. -/
def level1024b (x7 : FVec F S2048x256 .f32) : FVec F S2048x256 .f32 :=
  rowsIn k0_off33 k0_off33_inb mergeDesc x7

/-- The merges of the blocks of 2048 rows, ascending. -/
def level2048 (x : FVec F S2048x256 .f32) : FVec F S2048x256 .f32 :=
  let x1 := rows256 k0_off34 k0_off35 k0_off34_inb k0_off35_inb true x
  let x2 := rows256 k0_off36 k0_off37 k0_off36_inb k0_off37_inb true x1
  let x3 := rows256 k0_off38 k0_off39 k0_off38_inb k0_off39_inb true x2
  let x4 := rows128 k0_off40 k0_off41 k0_off40_inb k0_off41_inb true x3
  rowsIn k0_off42 k0_off42_inb mergeAsc x4

/-- The sort the kernel runs. -/
def sortVals (x : FVec F S2048x256 .f32) : FVec F S2048x256 .f32 :=
  level2048 (level1024b (level1024a (level512b (level512a (level256 (level128 (level64 x)))))))

/-- What the body leaves in its output block: from the projections, the weights, the reference points and its slice of
the input. -/
def bodyVals (wv : FVec F S256x256 .f32) (x : FVec F S1x2048x256 .f32) (rp wt : FVec F S2048x256 .f32) : FVec F S1x1x256 .f32 :=
  k0_pay185 wt rp (sortVals (k0_pay153 wv x))

end Cert.KernelIdeal.Gen
-- ==== Proof.IdealBody.lean ====
/-
  The kernel's body runs: it is a straight program of loads, loops of window programs and stores, and from its blocks
  held at given values it leaves its output block at `bodyVals` of them.
-/
module

public import proofs.«01_k».proof.Proof.Gen.KernelIdeal.Frame
public import proofs.«01_k».proof.Proof.IdealVals

@[expose] public section

set_option maxRecDepth 65536

noncomputable section

namespace Cert.KernelIdeal.Gen

open Idealize.ShloMosaic Idealize.ShloMosaic.TcCoe
open Idealize.SL Idealize.SL.RA Idealize.SL.BI Idealize.SL.Sem Idealize.SL.ProofMode
open scoped Idealize.SL.BI
open Idealize.SL.BI.BIBase Idealize.SL.BI.Laws
open Idealize.ShloMosaic.Rounds
open Cert.WindowRuns Cert.Stages

variable {F : FTy → Type} [FloatOps F]

section Programs

variable (i : grid0.Coords) (arg1 : Memref sig .tc .vmem S1x2048x256 .f32) (harg1 : arg1.IsWhole)
  (arg2 : Memref sig .tc .vmem S2048x256 .f32) (harg2 : arg2.IsWhole) (arg3 : Memref sig .tc .vmem S256x256 .f32) (harg3 : arg3.IsWhole)
  (arg4 : Memref sig .tc .vmem S2048x256 .f32) (harg4 : arg4.IsWhole) (arg5 : Memref sig .tc .vmem S1x1x256 .f32) (harg5 : arg5.IsWhole)
  (arg6 : Memref sig .tc .vmem S2048x256 .f32) (harg6 : arg6.IsWhole)

/-- A loop over the scratch buffer that rewrites blocks of 128 rows in place by `f`. -/
def inRows (l : Scf.Loop 32) (hok : l.OK) (off : Fin l.trips → Fin S2048x256.rank → ℕ)
    (inb : ∀ k, ∀ a, off k a + S128x256.size a ≤ S2048x256.size a) (f : FVec F SBlock .f32 → FVec F SBlock .f32) :
    Prog (TpuEff nD τ sig (Elt F) Λ₀ .tc) Unit :=
  inPlaceFor (Val := Elt F) (s := S2048x256) (e := .f32) arg6 l hok off S128x256.size inb
    (fun _ => View.loadsAt_vmem h_S128x256) (fun _ => View.stores_vmem_bits_univ h_S128x256 rfl) f

/-- A loop over the scratch buffer that compares and exchanges two blocks of 128 rows per trip. -/
def swapRows128 (l : Scf.Loop 32) (hok : l.OK) (off off' : Fin l.trips → Fin S2048x256.rank → ℕ)
    (inb : ∀ k, ∀ a, off k a + S128x256.size a ≤ S2048x256.size a) (inb' : ∀ k, ∀ a, off' k a + S128x256.size a ≤ S2048x256.size a)
    (asc : Bool) : Prog (TpuEff nD τ sig (Elt F) Λ₀ .tc) Unit :=
  exchangeFor (Val := Elt F) (s := S2048x256) (e := .f32) arg6 l hok off off' S128x256.size inb inb'
    (fun _ => View.loadsAt_vmem h_S128x256) (fun _ => View.loadsAt_vmem h_S128x256)
    (fun _ => View.stores_vmem_bits_univ h_S128x256 rfl) (fun _ => View.stores_vmem_bits_univ h_S128x256 rfl)
    (first asc SBlock blockCasts) (first (!asc) SBlock blockCasts)

/-- A loop over the scratch buffer that compares and exchanges two blocks of 256 rows per trip. -/
def swapRows256 (l : Scf.Loop 32) (hok : l.OK) (off off' : Fin l.trips → Fin S2048x256.rank → ℕ)
    (inb : ∀ k, ∀ a, off k a + S256x256.size a ≤ S2048x256.size a) (inb' : ∀ k, ∀ a, off' k a + S256x256.size a ≤ S2048x256.size a)
    (asc : Bool) : Prog (TpuEff nD τ sig (Elt F) Λ₀ .tc) Unit :=
  exchangeFor (Val := Elt F) (s := S2048x256) (e := .f32) arg6 l hok off off' S256x256.size inb inb'
    (fun _ => View.loadsAt_vmem h_S256x256) (fun _ => View.loadsAt_vmem h_S256x256)
    (fun _ => View.stores_vmem_bits_univ h_S256x256 rfl) (fun _ => View.stores_vmem_bits_univ h_S256x256 rfl)
    (first asc (SRows 256) rows256Casts) (first (!asc) (SRows 256) rows256Casts)

/-- The sort of the blocks of 64 rows, as a program that goes on with `k`. -/
def level64Prog {β : Type} (k : Prog (TpuEff nD τ sig (Elt F) Λ₀ .tc) β) : Prog (TpuEff nD τ sig (Elt F) Λ₀ .tc) β := do
  inRows arg6 k0_t1_loop k0_t1_ok k0_off1 k0_off1_inb sortHalves
  k

/-- The merges of the blocks of 128 rows, ascending and descending in turn, as a program that goes on with `k`. -/
def level128Prog {β : Type} (k : Prog (TpuEff nD τ sig (Elt F) Λ₀ .tc) β) : Prog (TpuEff nD τ sig (Elt F) Λ₀ .tc) β := do
  inRows arg6 k0_t2_loop k0_t2_ok k0_off2 k0_off2_inb mergeAsc
  inRows arg6 k0_t3_loop k0_t3_ok k0_off3 k0_off3_inb mergeDesc
  k

/-- The merges of the blocks of 256 rows, ascending and descending in turn, as a program that goes on with `k`. -/
def level256Prog {β : Type} (k : Prog (TpuEff nD τ sig (Elt F) Λ₀ .tc) β) : Prog (TpuEff nD τ sig (Elt F) Λ₀ .tc) β := do
  swapRows128 arg6 k0_t4_loop k0_t4_ok k0_off4 k0_off5 k0_off4_inb k0_off5_inb true
  swapRows128 arg6 k0_t5_loop k0_t5_ok k0_off6 k0_off7 k0_off6_inb k0_off7_inb false
  inRows arg6 k0_t6_loop k0_t6_ok k0_off8 k0_off8_inb mergeAsc
  inRows arg6 k0_t7_loop k0_t7_ok k0_off9 k0_off9_inb mergeDesc
  k

/-- The merges of the blocks of 512 rows, ascending and descending in turn, as a program that goes on with `k`. The first loops. -/
def level512aProg {β : Type} (k : Prog (TpuEff nD τ sig (Elt F) Λ₀ .tc) β) : Prog (TpuEff nD τ sig (Elt F) Λ₀ .tc) β := do
  swapRows256 arg6 k0_t8_loop k0_t8_ok k0_off10 k0_off11 k0_off10_inb k0_off11_inb true
  swapRows256 arg6 k0_t9_loop k0_t9_ok k0_off12 k0_off13 k0_off12_inb k0_off13_inb false
  swapRows128 arg6 k0_t10_loop k0_t10_ok k0_off14 k0_off15 k0_off14_inb k0_off15_inb true
  k

/-- The merges of the blocks of 512 rows, ascending and descending in turn, as a program that goes on with `k`. The other loops. -/
def level512bProg {β : Type} (k : Prog (TpuEff nD τ sig (Elt F) Λ₀ .tc) β) : Prog (TpuEff nD τ sig (Elt F) Λ₀ .tc) β := do
  swapRows128 arg6 k0_t11_loop k0_t11_ok k0_off16 k0_off17 k0_off16_inb k0_off17_inb false
  inRows arg6 k0_t12_loop k0_t12_ok k0_off18 k0_off18_inb mergeAsc
  inRows arg6 k0_t13_loop k0_t13_ok k0_off19 k0_off19_inb mergeDesc
  k

/-- The merges of the blocks of 1024 rows, ascending and descending in turn, as a program that goes on with `k`. The first loops. -/
def level1024aProg {β : Type} (k : Prog (TpuEff nD τ sig (Elt F) Λ₀ .tc) β) : Prog (TpuEff nD τ sig (Elt F) Λ₀ .tc) β := do
  swapRows256 arg6 k0_t14_loop k0_t14_ok k0_off20 k0_off21 k0_off20_inb k0_off21_inb true
  swapRows256 arg6 k0_t15_loop k0_t15_ok k0_off22 k0_off23 k0_off22_inb k0_off23_inb false
  swapRows256 arg6 k0_t16_loop k0_t16_ok k0_off24 k0_off25 k0_off24_inb k0_off25_inb true
  swapRows256 arg6 k0_t17_loop k0_t17_ok k0_off26 k0_off27 k0_off26_inb k0_off27_inb false
  swapRows128 arg6 k0_t18_loop k0_t18_ok k0_off28 k0_off29 k0_off28_inb k0_off29_inb true
  swapRows128 arg6 k0_t19_loop k0_t19_ok k0_off30 k0_off31 k0_off30_inb k0_off31_inb false
  inRows arg6 k0_t20_loop k0_t20_ok k0_off32 k0_off32_inb mergeAsc
  k

/-- The merges of the blocks of 1024 rows, ascending and descending in turn, as a program that goes on with `k`. The other loops. -/
def level1024bProg {β : Type} (k : Prog (TpuEff nD τ sig (Elt F) Λ₀ .tc) β) : Prog (TpuEff nD τ sig (Elt F) Λ₀ .tc) β := do
  inRows arg6 k0_t21_loop k0_t21_ok k0_off33 k0_off33_inb mergeDesc
  k

/-- The merges of the blocks of 2048 rows, ascending, as a program that goes on with `k`. -/
def level2048Prog {β : Type} (k : Prog (TpuEff nD τ sig (Elt F) Λ₀ .tc) β) : Prog (TpuEff nD τ sig (Elt F) Λ₀ .tc) β := do
  swapRows256 arg6 k0_t22_loop k0_t22_ok k0_off34 k0_off35 k0_off34_inb k0_off35_inb true
  swapRows256 arg6 k0_t23_loop k0_t23_ok k0_off36 k0_off37 k0_off36_inb k0_off37_inb true
  swapRows256 arg6 k0_t24_loop k0_t24_ok k0_off38 k0_off39 k0_off38_inb k0_off39_inb true
  swapRows128 arg6 k0_t25_loop k0_t25_ok k0_off40 k0_off41 k0_off40_inb k0_off41_inb true
  inRows arg6 k0_t26_loop k0_t26_ok k0_off42 k0_off42_inb mergeAsc
  k

/-- The loads of the projections and the input, and the store of their product. -/
def startProg : Prog (TpuEff nD τ sig (Elt F) Λ₀ .tc) PUnit := do
  let wv ← Prog.lift (.load arg3 (Rect.unit (s := S256x256) ![0, 0] S256x256.size inb_S256x256_S256x256_0_0).toLoadRect (View.loadsAt_vmem h_S256x256))
  let x ← Prog.lift (.load arg1 (Rect.unit (s := S1x2048x256) ![0, 0, 0] S1x2048x256.size inb_S1x2048x256_S1x2048x256_0_0_0).toLoadRect (View.loadsAt_vmem h_S1x2048x256))
  let _ ← Prog.lift (.load arg6 (Rect.unit (s := S2048x256) ![0, 0] S2048x256.size inb_S2048x256_S2048x256_0_0).toLoadRect (View.loadsAt_vmem h_S2048x256))
  Prog.lift (.store arg6 (Rect.unit (s := S2048x256) ![0, 0] S2048x256.size inb_S2048x256_S2048x256_0_0) (k0_pay153 wv x) Finset.univ
    (View.stores_vmem_bits_univ h_S2048x256 rfl) (.inl rfl))
  pure ⟨⟩

/-- The weighted sum of the differences, stored to the output block. -/
def endProg : Prog (TpuEff nD τ sig (Elt F) Λ₀ .tc) PUnit := do
  let wt ← Prog.lift (.load arg4 (Rect.unit (s := S2048x256) ![0, 0] S2048x256.size inb_S2048x256_S2048x256_0_0).toLoadRect (View.loadsAt_vmem h_S2048x256))
  let rp ← Prog.lift (.load arg2 (Rect.unit (s := S2048x256) ![0, 0] S2048x256.size inb_S2048x256_S2048x256_0_0).toLoadRect (View.loadsAt_vmem h_S2048x256))
  let s ← Prog.lift (.load arg6 (Rect.unit (s := S2048x256) ![0, 0] S2048x256.size inb_S2048x256_S2048x256_0_0).toLoadRect (View.loadsAt_vmem h_S2048x256))
  let _ ← Prog.lift (.load arg5 (Rect.unit (s := S1x1x256) ![0, 0, 0] S1x1x256.size inb_S1x1x256_S1x1x256_0_0_0).toLoadRect (View.loadsAt_vmem h_S1x1x256))
  Prog.lift (.store arg5 (Rect.unit (s := S1x1x256) ![0, 0, 0] S1x1x256.size inb_S1x1x256_S1x1x256_0_0_0) (k0_pay185 wt rp s) Finset.univ
    (View.stores_vmem_bits_univ h_S1x1x256 rfl) (.inl rfl))
  pure ⟨⟩

/-- The body as a straight program. -/
def bodyProg : Prog (TpuEff nD τ sig (Elt F) Λ₀ .tc) PUnit := do
  startProg arg1 arg3 arg6
  let _ ← level64Prog arg6 (level128Prog arg6 (level256Prog arg6 (level512aProg arg6 (pure (⟨0#32, 4#32⟩ : Σ' (_ : BitVec 32), BitVec 32)))))
  let _ ← level512bProg arg6 (level1024aProg arg6 (pure (⟨0#32, 8#32⟩ : Σ' (_ : BitVec 32), BitVec 32)))
  level1024bProg arg6 (level2048Prog arg6 (endProg arg2 arg4 arg5 arg6))

/-- The kernel's body is that program. -/
theorem part_eq : k0_part62 (F := F) i arg1 harg1 arg2 harg2 arg3 harg3 arg4 harg4 arg5 harg5 arg6 harg6
    = bodyProg arg1 arg2 arg3 arg4 arg5 arg6 := rfl

/-- The kernel's body is that program and returns nothing. -/
theorem body_eq : cc0__pswe_body (F := F) i arg1 harg1 arg2 harg2 arg3 harg3 arg4 harg4 arg5 harg5 arg6 harg6
    = bodyProg arg1 arg2 arg3 arg4 arg5 arg6 >>= fun _ => pure ⟨⟩ := by
  unfold cc0__pswe_body
  rw [part_eq]

end Programs

section Runs

variable (𝒱 : Variants) (c : Dev nD) (bd : Option 𝒱.V) (E : Set ℕ) {arg6 : Memref sig .tc .vmem S2048x256 .f32}
  {P : sProp (MT nD τ sig Unit (Elt F) ℕ (UR sig nD τ) ℕ)} {β : Type} {k : Prog (TpuEff nD τ sig (Elt F) Λ₀ .tc) β} {Q : β → sProp (MT nD τ sig Unit (Elt F) ℕ (UR sig nD τ) ℕ)}

/-- The run of `level64Prog`: the scratch buffer goes from `x` to `level64 x`, beside any other resources. -/
theorem level64_run {x : FVec F S2048x256 .f32}
    (h : iprop(P ∗ owns (c : Thread nD τ) arg6 fullShare (level64 x)) ⊢ wp frame (wpE (Ix := Unit) (Name := ℕ) (U := UR sig nD τ) (Lvl := ℕ) (defs₀ (F := F)) 𝒱 (c : Thread nD τ) bd) E k Q) :
    iprop(P ∗ owns (c : Thread nD τ) arg6 fullShare x) ⊢ wp frame (wpE (Ix := Unit) (Name := ℕ) (U := UR sig nD τ) (Lvl := ℕ) (defs₀ (F := F)) 𝒱 (c : Thread nD τ) bd) E (level64Prog arg6 k) Q :=
  next_run 𝒱 (c : Thread nD τ) bd E (inPlaceFor_run 𝒱 (c : Thread nD τ) bd E _) fun _ =>
  h

/-- The run of `level128Prog`: the scratch buffer goes from `x` to `level128 x`, beside any other resources. -/
theorem level128_run {x : FVec F S2048x256 .f32}
    (h : iprop(P ∗ owns (c : Thread nD τ) arg6 fullShare (level128 x)) ⊢ wp frame (wpE (Ix := Unit) (Name := ℕ) (U := UR sig nD τ) (Lvl := ℕ) (defs₀ (F := F)) 𝒱 (c : Thread nD τ) bd) E k Q) :
    iprop(P ∗ owns (c : Thread nD τ) arg6 fullShare x) ⊢ wp frame (wpE (Ix := Unit) (Name := ℕ) (U := UR sig nD τ) (Lvl := ℕ) (defs₀ (F := F)) 𝒱 (c : Thread nD τ) bd) E (level128Prog arg6 k) Q :=
  next_run 𝒱 (c : Thread nD τ) bd E (inPlaceFor_run 𝒱 (c : Thread nD τ) bd E _) fun _ =>
  next_run 𝒱 (c : Thread nD τ) bd E (inPlaceFor_run 𝒱 (c : Thread nD τ) bd E _) fun _ =>
  h

/-- The run of `level256Prog`: the scratch buffer goes from `x` to `level256 x`, beside any other resources. -/
theorem level256_run {x : FVec F S2048x256 .f32}
    (h : iprop(P ∗ owns (c : Thread nD τ) arg6 fullShare (level256 x)) ⊢ wp frame (wpE (Ix := Unit) (Name := ℕ) (U := UR sig nD τ) (Lvl := ℕ) (defs₀ (F := F)) 𝒱 (c : Thread nD τ) bd) E k Q) :
    iprop(P ∗ owns (c : Thread nD τ) arg6 fullShare x) ⊢ wp frame (wpE (Ix := Unit) (Name := ℕ) (U := UR sig nD τ) (Lvl := ℕ) (defs₀ (F := F)) 𝒱 (c : Thread nD τ) bd) E (level256Prog arg6 k) Q :=
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  next_run 𝒱 (c : Thread nD τ) bd E (inPlaceFor_run 𝒱 (c : Thread nD τ) bd E _) fun _ =>
  next_run 𝒱 (c : Thread nD τ) bd E (inPlaceFor_run 𝒱 (c : Thread nD τ) bd E _) fun _ =>
  h

/-- The run of `level512aProg`: the scratch buffer goes from `x` to `level512a x`, beside any other resources. -/
theorem level512a_run {x : FVec F S2048x256 .f32}
    (h : iprop(P ∗ owns (c : Thread nD τ) arg6 fullShare (level512a x)) ⊢ wp frame (wpE (Ix := Unit) (Name := ℕ) (U := UR sig nD τ) (Lvl := ℕ) (defs₀ (F := F)) 𝒱 (c : Thread nD τ) bd) E k Q) :
    iprop(P ∗ owns (c : Thread nD τ) arg6 fullShare x) ⊢ wp frame (wpE (Ix := Unit) (Name := ℕ) (U := UR sig nD τ) (Lvl := ℕ) (defs₀ (F := F)) 𝒱 (c : Thread nD τ) bd) E (level512aProg arg6 k) Q :=
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  h

/-- The run of `level512bProg`: the scratch buffer goes from `x` to `level512b x`, beside any other resources. -/
theorem level512b_run {x : FVec F S2048x256 .f32}
    (h : iprop(P ∗ owns (c : Thread nD τ) arg6 fullShare (level512b x)) ⊢ wp frame (wpE (Ix := Unit) (Name := ℕ) (U := UR sig nD τ) (Lvl := ℕ) (defs₀ (F := F)) 𝒱 (c : Thread nD τ) bd) E k Q) :
    iprop(P ∗ owns (c : Thread nD τ) arg6 fullShare x) ⊢ wp frame (wpE (Ix := Unit) (Name := ℕ) (U := UR sig nD τ) (Lvl := ℕ) (defs₀ (F := F)) 𝒱 (c : Thread nD τ) bd) E (level512bProg arg6 k) Q :=
  next_run 𝒱 (c : Thread nD τ) bd E (exchangeFor_run 𝒱 (c : Thread nD τ) bd E _) fun _ =>
  next_run 𝒱 (c : Thread nD τ) bd E (inPlaceFor_run 𝒱 (c : Thread nD τ) bd E _) fun _ =>
  next_run 𝒱 (c : Thread nD τ) bd E (inPlaceFor_run 𝒱 (c : Thread nD τ) bd E _) fun _ =>
  h

/-- The run of `level1024aProg`: the scratch buffer goes from `x` to `level1024a x`, beside any other resources. -/
theorem level1024a_run {x : FVec F S2048x256 .f32}
    (h : iprop(P ∗ owns (c : Thread nD τ) arg6 fullShare (level1024a x)) ⊢ wp frame (wpE (Ix := Unit) (Name := ℕ) (U := UR sig nD τ) (Lvl := ℕ) (defs₀ (F := F)) 𝒱 (c : Thread nD τ) bd) E k Q) :
    iprop(P ∗ owns (c : Thread nD τ) arg6 fullShare x) ⊢ wp frame (wpE (Ix := Unit) (Name := ℕ) (U := UR sig nD τ) (Lvl := ℕ) (defs₀ (F := F)) 𝒱 (c : Thread nD τ) bd) E (level1024aProg arg6 k) Q :=
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  next_run 𝒱 (c : Thread nD τ) bd E (inPlaceFor_run 𝒱 (c : Thread nD τ) bd E _) fun _ =>
  h

/-- The run of `level1024bProg`: the scratch buffer goes from `x` to `level1024b x`, beside any other resources. -/
theorem level1024b_run {x : FVec F S2048x256 .f32}
    (h : iprop(P ∗ owns (c : Thread nD τ) arg6 fullShare (level1024b x)) ⊢ wp frame (wpE (Ix := Unit) (Name := ℕ) (U := UR sig nD τ) (Lvl := ℕ) (defs₀ (F := F)) 𝒱 (c : Thread nD τ) bd) E k Q) :
    iprop(P ∗ owns (c : Thread nD τ) arg6 fullShare x) ⊢ wp frame (wpE (Ix := Unit) (Name := ℕ) (U := UR sig nD τ) (Lvl := ℕ) (defs₀ (F := F)) 𝒱 (c : Thread nD τ) bd) E (level1024bProg arg6 k) Q :=
  next_run 𝒱 (c : Thread nD τ) bd E (inPlaceFor_run 𝒱 (c : Thread nD τ) bd E _) fun _ =>
  h

/-- The run of `level2048Prog`: the scratch buffer goes from `x` to `level2048 x`, beside any other resources. -/
theorem level2048_run {x : FVec F S2048x256 .f32}
    (h : iprop(P ∗ owns (c : Thread nD τ) arg6 fullShare (level2048 x)) ⊢ wp frame (wpE (Ix := Unit) (Name := ℕ) (U := UR sig nD τ) (Lvl := ℕ) (defs₀ (F := F)) 𝒱 (c : Thread nD τ) bd) E k Q) :
    iprop(P ∗ owns (c : Thread nD τ) arg6 fullShare x) ⊢ wp frame (wpE (Ix := Unit) (Name := ℕ) (U := UR sig nD τ) (Lvl := ℕ) (defs₀ (F := F)) 𝒱 (c : Thread nD τ) bd) E (level2048Prog arg6 k) Q :=
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  next_run 𝒱 (c : Thread nD τ) bd E (exchangeFor_run 𝒱 (c : Thread nD τ) bd E _) fun _ =>
  next_run 𝒱 (c : Thread nD τ) bd E (inPlaceFor_run 𝒱 (c : Thread nD τ) bd E _) fun _ =>
  h

variable {arg1 : Memref sig .tc .vmem S1x2048x256 .f32} {arg2 : Memref sig .tc .vmem S2048x256 .f32}
  {arg3 : Memref sig .tc .vmem S256x256 .f32} {arg4 : Memref sig .tc .vmem S2048x256 .f32} {arg5 : Memref sig .tc .vmem S1x1x256 .f32}
  {x : FVec F S1x2048x256 .f32} {rp wt : FVec F S2048x256 .f32} {wv : FVec F S256x256 .f32}

/-- The five blocks of a grid point, beside the scratch buffer: the input's slice, the reference points, the
projections, the weights, and the output block. -/
def blocks (arg1 : Memref sig .tc .vmem S1x2048x256 .f32) (arg2 : Memref sig .tc .vmem S2048x256 .f32)
    (arg3 : Memref sig .tc .vmem S256x256 .f32) (arg4 : Memref sig .tc .vmem S2048x256 .f32) (arg5 : Memref sig .tc .vmem S1x1x256 .f32)
    (x : FVec F S1x2048x256 .f32) (rp : FVec F S2048x256 .f32) (wv : FVec F S256x256 .f32) (wt : FVec F S2048x256 .f32)
    (y : FVec F S1x1x256 .f32) : sProp (MT nD τ sig Unit (Elt F) ℕ (UR sig nD τ) ℕ) :=
  iprop(owns (c : Thread nD τ) arg1 fullShare x ∗ owns (c : Thread nD τ) arg2 fullShare rp ∗ owns (c : Thread nD τ) arg3 fullShare wv ∗ owns (c : Thread nD τ) arg4 fullShare wt ∗ owns (c : Thread nD τ) arg5 fullShare y)

/-- The body's first part leaves the product in the scratch buffer. -/
theorem start_run {y : FVec F S1x1x256 .f32} {z : FVec F S2048x256 .f32} :
    iprop(owns (c : Thread nD τ) arg1 fullShare x ∗ owns (c : Thread nD τ) arg3 fullShare wv ∗ owns (c : Thread nD τ) arg6 fullShare z)
      ⊢ wp frame (wpE (Ix := Unit) (Name := ℕ) (U := UR sig nD τ) (Lvl := ℕ) (defs₀ (F := F)) 𝒱 (c : Thread nD τ) bd) E (startProg arg1 arg3 arg6)
        (fun _ => iprop(owns (c : Thread nD τ) arg1 fullShare x ∗ owns (c : Thread nD τ) arg3 fullShare wv ∗ owns (c : Thread nD τ) arg6 fullShare (k0_pay153 wv x))) := by
  unfold startProg
  iintro ⟨H1, H3, H6⟩
  iapply (load_all 𝒱 (c : Thread nD τ) bd E wv) $$ [H3]
  · iexact H3
  iintro H3
  iapply (load_all 𝒱 (c : Thread nD τ) bd E x) $$ [H1]
  · iexact H1
  iintro H1
  iapply (load_all 𝒱 (c : Thread nD τ) bd E z) $$ [H6]
  · iexact H6
  iintro H6
  iapply (store_all 𝒱 (c : Thread nD τ) bd E z) $$ [H6]
  · iexact H6
  iintro H6
  iapply (le_wp_ret frame (wpE (defs₀ (F := F)) 𝒱 (c : Thread nD τ) bd) E (PUnit.unit) _)
  isplitl [H1]
  · iexact H1
  isplitl [H3]
  · iexact H3
  iexact H6

/-- The body's last part leaves the weighted sum in the output block. -/
theorem end_run {y : FVec F S1x1x256 .f32} {z : FVec F S2048x256 .f32} :
    iprop(blocks c arg1 arg2 arg3 arg4 arg5 x rp wv wt y ∗ owns (c : Thread nD τ) arg6 fullShare z)
      ⊢ wp frame (wpE (Ix := Unit) (Name := ℕ) (U := UR sig nD τ) (Lvl := ℕ) (defs₀ (F := F)) 𝒱 (c : Thread nD τ) bd) E (endProg arg2 arg4 arg5 arg6)
        (fun _ => iprop(blocks c arg1 arg2 arg3 arg4 arg5 x rp wv wt (k0_pay185 wt rp z) ∗ owns (c : Thread nD τ) arg6 fullShare z)) := by
  unfold endProg blocks
  iintro ⟨⟨H1, H2, H3, H4, H5⟩, H6⟩
  iapply (load_all 𝒱 (c : Thread nD τ) bd E wt) $$ [H4]
  · iexact H4
  iintro H4
  iapply (load_all 𝒱 (c : Thread nD τ) bd E rp) $$ [H2]
  · iexact H2
  iintro H2
  iapply (load_all 𝒱 (c : Thread nD τ) bd E z) $$ [H6]
  · iexact H6
  iintro H6
  iapply (load_all 𝒱 (c : Thread nD τ) bd E y) $$ [H5]
  · iexact H5
  iintro H5
  iapply (store_all 𝒱 (c : Thread nD τ) bd E y) $$ [H5]
  · iexact H5
  iintro H5
  iapply (le_wp_ret frame (wpE (defs₀ (F := F)) 𝒱 (c : Thread nD τ) bd) E (PUnit.unit) _)
  isplitr [H6]
  · isplitl [H1]
    · iexact H1
    isplitl [H2]
    · iexact H2
    isplitl [H3]
    · iexact H3
    isplitl [H4]
    · iexact H4
    iexact H5
  iexact H6

/-- The body: from its blocks it leaves `bodyVals` of them in the output block, and the scratch buffer sorted. -/
theorem body_run (i : grid0.Coords) (harg1 : arg1.IsWhole) (harg2 : arg2.IsWhole) (harg3 : arg3.IsWhole) (harg4 : arg4.IsWhole)
    (harg5 : arg5.IsWhole) (harg6 : arg6.IsWhole) (y : FVec F S1x1x256 .f32) (z : FVec F S2048x256 .f32) :
    iprop(blocks c arg1 arg2 arg3 arg4 arg5 x rp wv wt y ∗ owns (c : Thread nD τ) arg6 fullShare z)
      ⊢ wp frame (wpE (Ix := Unit) (Name := ℕ) (U := UR sig nD τ) (Lvl := ℕ) (defs₀ (F := F)) 𝒱 (c : Thread nD τ) bd) E (cc0__pswe_body (F := F) i arg1 harg1 arg2 harg2 arg3 harg3 arg4 harg4 arg5 harg5 arg6 harg6)
        (fun _ => iprop(blocks c arg1 arg2 arg3 arg4 arg5 x rp wv wt (bodyVals wv x rp wt)
          ∗ owns (c : Thread nD τ) arg6 fullShare (sortVals (k0_pay153 wv x)))) := by
  rw [body_eq]
  have ret : ∀ {α : Type} {v : α} {R : sProp (MT nD τ sig Unit (Elt F) ℕ (UR sig nD τ) ℕ)} {Q : α → sProp (MT nD τ sig Unit (Elt F) ℕ (UR sig nD τ) ℕ)}, (R ⊢ Q v) → R ⊢ wp frame (wpE (Ix := Unit) (Name := ℕ) (U := UR sig nD τ) (Lvl := ℕ) (defs₀ (F := F)) 𝒱 (c : Thread nD τ) bd) E (pure v) Q := fun h =>
    h.trans (le_wp_ret frame (wpE (defs₀ (F := F)) 𝒱 (c : Thread nD τ) bd) E _ _)
  unfold bodyProg
  rw [wp_bind, wp_bind]
  iintro ⟨HB, H6⟩
  unfold blocks
  icases HB with ⟨H1, H2, H3, H4, H5⟩
  iapply (wp_wand_r frame (wpE (defs₀ (F := F)) 𝒱 (c : Thread nD τ) bd) E)
  isplitl [H1 H3 H6]
  · iapply (start_run 𝒱 c bd E (y := y) (z := z))
    isplitl [H1]
    · iexact H1
    isplitl [H3]
    · iexact H3
    iexact H6
  iintro %_ ⟨H1, H3, H6⟩
  have sorts : iprop(blocks c arg1 arg2 arg3 arg4 arg5 x rp wv wt y ∗ owns (c : Thread nD τ) arg6 fullShare (k0_pay153 wv x))
      ⊢ wp frame (wpE (Ix := Unit) (Name := ℕ) (U := UR sig nD τ) (Lvl := ℕ) (defs₀ (F := F)) 𝒱 (c : Thread nD τ) bd) E (do
        let _ ← level64Prog arg6 (level128Prog arg6 (level256Prog arg6 (level512aProg arg6 (pure (⟨0#32, 4#32⟩ : Σ' (_ : BitVec 32), BitVec 32)))))
        let _ ← level512bProg arg6 (level1024aProg arg6 (pure (⟨0#32, 8#32⟩ : Σ' (_ : BitVec 32), BitVec 32)))
        level1024bProg arg6 (level2048Prog arg6 (endProg arg2 arg4 arg5 arg6)))
        (fun _ => wp frame (wpE (defs₀ (F := F)) 𝒱 (c : Thread nD τ) bd) E (pure PUnit.unit) (fun _ => iprop(blocks c arg1 arg2 arg3 arg4 arg5 x rp wv wt (bodyVals wv x rp wt)
          ∗ owns (c : Thread nD τ) arg6 fullShare (sortVals (k0_pay153 wv x))))) := by
    rw [wp_bind]
    refine level64_run 𝒱 c bd E (level128_run 𝒱 c bd E (level256_run 𝒱 c bd E (level512a_run 𝒱 c bd E (ret ?_))))
    rw [wp_bind]
    refine level512b_run 𝒱 c bd E (level1024a_run 𝒱 c bd E (ret ?_))
    refine level1024b_run 𝒱 c bd E (level2048_run 𝒱 c bd E ((end_run 𝒱 c bd E).trans (wp_mono _ _ _ fun _ => ret .rfl)))
  iapply sorts
  unfold blocks
  isplitr [H6]
  · isplitl [H1]
    · iexact H1
    isplitl [H2]
    · iexact H2
    isplitl [H3]
    · iexact H3
    isplitl [H4]
    · iexact H4
    iexact H5
  iexact H6

end Runs
end Cert.KernelIdeal.Gen
-- ==== Proof.IdealLaunch.lean ====
/-
  The launch: at every grid point the body turns the point's input blocks into `bodyVals` of them; hence the program
  terminates without a fault from any memory, leaves its arguments as they were, every counter at zero, and the
  output array at what the grid's write-backs leave.
-/
module

public import proofs.«01_k».proof.Proof.IdealBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the body leaves in the output block at grid point `t`. -/
def outBlock (c : Dev nD) (t : Fin cfg0.N) : FVec F S1x1x256 .f32 :=
  bodyVals (iblk m c 2 t) (iblk m c 0 t) (iblk m c 1 t) (iblk m c 3 t)

/-- The proof data: the arrays as the region finds them; after the body the input blocks in place and the output block
at `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c t
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outBlock m c t := by dsimp only [dats]

/-- What the body finds at grid point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body leaves at grid point `t`. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The scratch buffer held at given values is held at something. -/
theorem scratch_some (c : Dev nD) (z : FVec F S2048x256 .f32) :
    (owns (c : Thread nD τ) (Memref.whole cc0_scratch0) fullShare z : sProp (MT nD τ sig Unit (Elt F) ℕ (UR sig nD τ) ℕ))
      ⊢ iprop(∃ f : Buf (Elt F) ((c : Thread nD τ).loc cc0_scratch0), ((c : Thread nD τ).loc cc0_scratch0) ↦{fullShare} f) := by
  rw [owns_whole_eq]
  iintro ⟨%f, -, H⟩
  iexists f
  iexact H

/-- The body at a grid point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0, after1, after2, after3, after4]
  unfold Pipeline.ΦA
  rw [scopedRest0_eq]
  have b0 := before0_0_of m (dats m 0 c) (A_eq m c 0) (after0 m c) t
  have b1 := before0_1_of m (dats m 0 c) (A_eq m c 1) (after1 m c) t
  have b2 := before0_2_of m (dats m 0 c) (A_eq m c 2) (after2 m c) t
  have b3 := before0_3_of m (dats m 0 c) (A_eq m c 3) (after3 m c) t
  simp only [b0, b1, b2, b3]
  iintro ⟨⟨⟨%f, Hs⟩, Hg⟩, Ho, ⟨%_, H0⟩, ⟨%_, H1⟩, ⟨%_, H2⟩, ⟨%_, H3⟩, ⟨%d, H4⟩⟩
  have run := body_run (F := F) Variants.none c none Set.univ (arg6 := Memref.whole cc0_scratch0)
    (x := iblk m c 0 t) (rp := iblk m c 1 t) (wv := iblk m c 2 t) (wt := iblk m c 3 t) (grid0.coords t)
    (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (Memref.isWhole_whole _)
    ((dats m 0 c).before 4 t d) f
  iapply (wp_wand_r frame (wpE (defs₀ (F := F)) Variants.none c none) Set.univ)
  isplitl [Hs H0 H1 H2 H3 H4]
  · iapply run
    isplitr [Hs]
    · unfold blocks
      isplitl [H0]
      · iexact H0
      isplitl [H1]
      · iexact H1
      isplitl [H2]
      · iexact H2
      isplitl [H3]
      · iexact H3
      iexact H4
    rw [owns_whole_eq]
    iexists f
    isplitr
    · ipureintro; rfl
    iexact Hs
  iintro %_ ⟨HB, Hs⟩
  unfold blocks
  icases HB with ⟨H0, H1, H2, H3, H4⟩
  isplitl [Hs Hg]
  · isplitl [Hs]
    · iapply (scratch_some c _)
      iexact Hs
    iexact Hg
  isplitl [Ho]
  · iexact Ho
  isplitl [H0]
  · iexact H0
  isplitl [H1]
  · iexact H1
  isplitl [H2]
  · iexact H2
  isplitl [H3]
  · iexact H3
  iexact H4

/-- The body table's row at a grid point is the body there. -/
theorem defs₀_row (t : Fin cfg0.N) : defs₀ (F := F) .tc cfg0.body (cfg0.bodyArgs t (cfg0.slots t)) = bodyAt0 t := by
  unfold defs₀; rw [Defs.onTc_tc]

/-- The body meets the pipeline's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program: the arrays end at what the grid leaves, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)
    (Q' := fun r => Pipeline.FramePost cfgs (dats m) 0 (Pipeline.afterTail₀ cfgs (dats m) 0 (V0 m) [hostOps1]) r ∧ r.2.sem = fun _ => 0)
    (hQ' := fun _ h => h)

/-- The arguments at the end of a run. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c)⟩

/-- Every run ends, with the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_kept m r h.1, h.2⟩) (run_main m ρ)

end Cert.KernelIdeal.Gen
-- ==== Proof.NetColumn.lean ====
/-
  A bitonic sorting network on a column, the column read as a function of the row number: one stage compares every
  row with the row whose number differs in one bit. A stage sees only the two rows of a pair, so on a set of rows that
  is closed under its pairs its outcome is fixed by the values there. The levels of stages one after another are
  Batcher's network, hence leave every column ascending and rearrange it.
-/
module

public import Idealize.ShloMosaic.Lib.SortNet.Sorts

@[expose] public section

namespace Cert.NetColumn

open Idealize.ShloMosaic.SortNet

variable {α : Type} [LinearOrder α]

/-- The stage at distance `2 ^ s`: a row and its partner take the lesser and the greater of their values, the lesser to
the earlier row where `up` tells that the pair ascends. -/
def cx (s : ℕ) (up : ℕ → Bool) (v : ℕ → α) : ℕ → α := fun i =>
  if i.testBit s == up i then max (v i) (v (i ^^^ 2 ^ s)) else min (v i) (v (i ^^^ 2 ^ s))

/-- Stages at the distances listed, first to last. -/
def cxs (ss : List ℕ) (up : ℕ → Bool) (v : ℕ → α) : ℕ → α := ss.foldl (fun v s => cx s up v) v

/-- Stages agree on a set of rows closed under their pairs where the directions and the values do. -/
theorem cxs_congr (A : ℕ → Prop) (up up' : ℕ → Bool) (hup : ∀ i, A i → up i = up' i) :
    ∀ (ss : List ℕ) (hA : ∀ s ∈ ss, ∀ i, A i → A (i ^^^ 2 ^ s)) (v v' : ℕ → α) (hv : ∀ i, A i → v i = v' i),
      ∀ i, A i → cxs ss up v i = cxs ss up' v' i
  | [], _, _, _, hv => hv
  | s :: ss, hA, v, v', hv => by
    refine cxs_congr A up up' hup ss (fun t ht => hA t (List.mem_cons_of_mem _ ht)) (cx s up v) (cx s up' v') ?_
    intro i hi
    unfold cx
    rw [hup i hi, hv i hi, hv _ (hA s List.mem_cons_self i hi)]

/-- Stages over a list of distances and then over another. -/
theorem cxs_append (ss tt : List ℕ) (up : ℕ → Bool) (v : ℕ → α) : cxs (ss ++ tt) up v = cxs tt up (cxs ss up v) := by
  unfold cxs; rw [List.foldl_append]

/-- The directions of the level that makes runs of `2 ^ l` rows: the runs ascend and descend in turn. -/
def upAt (l : ℕ) : ℕ → Bool := fun i => !i.testBit l

/-- The level that makes runs of `2 ^ l` rows out of runs half as long. -/
def level (l : ℕ) (v : ℕ → α) : ℕ → α := cxs (List.range l).reverse (upAt l) v

/-- The levels up to runs of `2 ^ p` rows. -/
def levels (p : ℕ) (v : ℕ → α) : ℕ → α := (List.range p).foldl (fun v l => level (l + 1) v) v

theorem levels_succ (p : ℕ) (v : ℕ → α) : levels (p + 1) v = level (p + 1) (levels p v) := by
  unfold levels; rw [List.range_succ, List.foldl_append]; rfl

/-- Another bit of the partner is the row's own. -/
theorem testBit_partner {s t : ℕ} (h : s ≠ t) (i : ℕ) : (i ^^^ 2 ^ s).testBit t = i.testBit t := by
  rw [Nat.testBit_xor, Nat.testBit_two_pow_of_ne h, Bool.xor_false]

/-- The distance's own bit of the partner is the other. -/
theorem testBit_partner_self (i s : ℕ) : (i ^^^ 2 ^ s).testBit s = !i.testBit s := by
  rw [Nat.testBit_xor, Nat.testBit_two_pow_self, Bool.xor_true]

/-- A stage is the network's stage on the first `2 ^ p` rows. -/
theorem cx_eq_apply {p s : ℕ} (hs : s < p) (up : ℕ → Bool) (hup : ∀ i, up (i ^^^ 2 ^ s) = up i) (v : ℕ → α) (low : Fin (2 ^ p) → Bool)
    (hlow : ∀ i, low i = !up i.val) :
    (fun i : Fin (2 ^ p) => cx s up v i.val) = Network.apply (stage p s low) (fun i => v i.val) := by
  funext i
  cases hb : i.val.testBit s
  · have h := (apply_stage hs low (fun i => v i.val) i ((and_two_pow_eq_zero_iff_testBit _ _).mpr hb)).1
    rw [h, hlow, partner_val hs]
    unfold cx
    rw [hb]
    cases up i.val <;> rfl
  · have hj : (partner p s i).val &&& 2 ^ s = 0 := by
      rw [partner_val hs, and_two_pow_eq_zero_iff_testBit, testBit_partner_self, hb]; rfl
    have hpp : partner p s (partner p s i) = i := by
      apply Fin.ext
      rw [partner_val hs, partner_val hs, Nat.xor_assoc, Nat.xor_self, Nat.xor_zero]
    have h := (apply_stage hs low (fun i => v i.val) (partner p s i) hj).2
    rw [hpp] at h
    rw [h, hlow, partner_val hs, hup]
    unfold cx
    rw [hb, max_comm (v i.val), min_comm (v i.val)]
    cases up i.val <;> rfl

/-- A network of stages is their columns' stages. -/
theorem apply_flatMap {p l : ℕ} (low : Fin (2 ^ p) → Bool) (hlow : ∀ i, low i = !upAt l i.val) :
    ∀ (ss : List ℕ) (hss : ∀ s ∈ ss, s < p ∧ s ≠ l) (v : ℕ → α),
      Network.apply (ss.flatMap fun s => stage p s low) (fun i => v i.val) = fun i => cxs ss (upAt l) v i.val
  | [], _, _ => rfl
  | s :: ss, hss, v => by
    have hs := hss s List.mem_cons_self
    have h1 := cx_eq_apply hs.1 (upAt l) (fun i => by unfold upAt; rw [testBit_partner hs.2]) v low hlow
    rw [List.flatMap_cons, Network.apply_append, ← h1]
    exact apply_flatMap low hlow ss (fun t ht => hss t (List.mem_cons_of_mem _ ht)) (cx s (upAt l) v)

/-- The levels up to runs of `2 ^ p` rows are the sorting network. -/
theorem levels_eq_apply (p : ℕ) (v : ℕ → α) :
    (fun i : Fin (2 ^ p) => levels p v i.val) = Network.apply (sortNet p false) (fun i => v i.val) := by
  have key : ∀ ls : List ℕ, (∀ l ∈ ls, l < p) → ∀ v : ℕ → α,
      Network.apply (ls.flatMap fun l => (List.range (l + 1)).reverse.flatMap fun s =>
        stage p s fun i => (decide (i.val &&& 2 ^ (l + 1) = 0)) == false) (fun i => v i.val)
      = fun i => ls.foldl (fun v l => level (l + 1) v) v i.val := by
    intro ls
    induction ls with
    | nil => intro _ v; rfl
    | cons l ls ih =>
      intro hl v
      have hlp := hl l List.mem_cons_self
      rw [List.flatMap_cons, Network.apply_append, apply_flatMap (l := l + 1) _ (fun i => by
        unfold upAt
        rw [Bool.not_not]
        have e := (and_two_pow_eq_zero_iff_testBit i.val (l + 1)).symm
        cases hb : i.val.testBit (l + 1)
        · rw [decide_eq_true (e.mp hb)]; rfl
        · rw [decide_eq_false (fun h => by rw [e.mpr h] at hb; exact absurd hb (by decide))]; rfl)
        (List.range (l + 1)).reverse (fun s hs => by
          have := List.mem_range.mp (List.mem_reverse.mp hs); omega) v]
      exact ih (fun t ht => hl t (List.mem_cons_of_mem _ ht)) (level (l + 1) v)
  exact (key (List.range p) (fun l hl => List.mem_range.mp hl) v).symm

/-- The levels leave the first `2 ^ p` rows ascending. -/
theorem levels_monotone (p : ℕ) (v : ℕ → α) : Monotone fun i : Fin (2 ^ p) => levels p v i.val := by
  rw [levels_eq_apply]; exact sortNet_apply_monotone p _

/-- The levels rearrange the first `2 ^ p` rows. -/
theorem levels_perm (p : ℕ) (v : ℕ → α) : ∃ σ : Equiv.Perm (Fin (2 ^ p)), ∀ i, levels p v i.val = v (σ i).val := by
  obtain ⟨σ, h⟩ := Network.exists_perm (sortNet p false) (fun i : Fin (2 ^ p) => v i.val)
  refine ⟨σ, fun i => ?_⟩
  have := congrFun (levels_eq_apply p v) i
  rw [h] at this
  exact this

end Cert.NetColumn
-- ==== Proof.BlockValues.lean ====
/-
  What a block of 128 rows holds after the kernel's stages over it, the floats read as extended reals: every stage, by
  pieces or by masks, compares each row of a column with the row at its distance and keeps the lesser or the greater, as a
  stage of the network does. The block's two merges are the last seven stages of a level, the sort of its halves the first
  six levels.
-/
module

public import proofs.«01_k».proof.Proof.BlockStages
public import proofs.«01_k».proof.Proof.NetColumn
public import Idealize.ShloMosaic.PureOps.Ideal
public import Idealize.ShloMosaic.Lib.Pipeline.Value

@[expose] public section

set_option maxRecDepth 16384

noncomputable section

namespace Cert.Stages

open Idealize.ShloMosaic
open Cert.NetColumn

/-- The index of row `r` in column `p`. -/
def rowIx {h : ℕ} (r : ℕ) (hr : r < h) (p : Fin 256) : (SRows h).Idx := fun a =>
  match a with
  | ⟨0, _⟩ => ⟨r, hr⟩
  | ⟨1, _⟩ => p

/-- The entry of column `p` in row `r`, zero past the last row. -/
def cell {h : ℕ} (v : FVec Ideal (SRows h) .f32) (p : Fin 256) (r : ℕ) : EReal := if hr : r < h then v (rowIx r hr p) else 0

theorem cell_of_lt {h : ℕ} (v : FVec Ideal (SRows h) .f32) (p : Fin 256) {r : ℕ} (hr : r < h) : cell v p r = v (rowIx r hr p) := dif_pos hr

/-- Every index is that of its row and column. -/
theorem rowIx_eq {h : ℕ} (j : (SRows h).Idx) : rowIx (j 0).val (j 0).isLt (j 1) = j := by
  funext a
  match a with
  | ⟨0, _⟩ => rfl
  | ⟨1, _⟩ => rfl

/-- Two indices of one column are the same where their rows are. -/
theorem rowIx_congr {h : ℕ} {r r' : ℕ} (e : r = r') (hr : r < h) (hr' : r' < h) (p : Fin 256) : rowIx r hr p = rowIx r' hr' p := by
  subst e; rfl

/-- A row of the rows from `o` on. -/
theorem rowsFrom_apply (v : FVec Ideal SBlock .f32) (o h : ℕ) (ho : o + h ≤ 128) (r : ℕ) (hr : r < h) (p : Fin 256) :
    rowsFrom v o h ho (rowIx r hr p) = cell v p (o + r) := by
  rw [cell_of_lt v p (show o + r < 128 by omega)]
  refine congrArg v ?_
  funext a
  match a with
  | ⟨0, _⟩ => exact Fin.ext rfl
  | ⟨1, _⟩ => exact Fin.ext (Nat.zero_add _)

/-- What is stored at its own shape is itself. -/
theorem stored_eq (s : Shape) (h : s.ShapeCasts s) (v : FVec Ideal s .f32) : stored s h v = v := by
  funext j
  unfold stored shapeCast
  exact congrArg v (Shape.reshapeEquiv_self h j)

/-- Where the two rows of a piece's pair lie, at distance `2 ^ s`. -/
theorem pair_rows : ∀ s : Fin 7, ∀ r : Fin 128,
    (r.val.testBit s = false → r.val / 2 ^ s.val % 2 = 0 ∧ 2 * (r.val / 2 ^ s.val / 2) * 2 ^ s.val + r.val % 2 ^ s.val = r.val
      ∧ (2 * (r.val / 2 ^ s.val / 2) + 1) * 2 ^ s.val + r.val % 2 ^ s.val = r.val ^^^ 2 ^ s.val)
    ∧ (r.val.testBit s = true → r.val / 2 ^ s.val % 2 = 1 ∧ 2 * (r.val / 2 ^ s.val / 2) * 2 ^ s.val + r.val % 2 ^ s.val = r.val ^^^ 2 ^ s.val
      ∧ (2 * (r.val / 2 ^ s.val / 2) + 1) * 2 ^ s.val + r.val % 2 ^ s.val = r.val) := by decide +kernel

/-- Where the rotated rows come from, at distance `2 ^ s`. -/
theorem rot_rows : ∀ s : Fin 7, ∀ r : Fin 128,
    (r.val.testBit s = false → (r.val + 2 ^ s.val) % 128 = r.val ^^^ 2 ^ s.val)
    ∧ (r.val.testBit s = true → (r.val + (128 - 2 ^ s.val)) % 128 = r.val ^^^ 2 ^ s.val) := by decide +kernel

/-- A row's partner in the block lies in the block. -/
theorem partner_lt : ∀ s : Fin 7, ∀ r : Fin 128, r.val ^^^ 2 ^ s.val < 128 := by decide +kernel

/-- What a function of blocks does to every column. -/
def Acts (f : FVec Ideal SBlock .f32 → FVec Ideal SBlock .f32) (g : (ℕ → EReal) → ℕ → EReal) : Prop :=
  ∀ v p r, r < 128 → cell (f v) p r = g (cell v p) r

/-- Stages within a block, after another function of blocks. -/
theorem Acts.comp {f f' : FVec Ideal SBlock .f32 → FVec Ideal SBlock .f32} {ss : List ℕ} {up : ℕ → Bool} {g' : (ℕ → EReal) → ℕ → EReal}
    (hss : ∀ s ∈ ss, s < 7) (h : Acts f (cxs ss up)) (h' : Acts f' g') : Acts (fun v => f (f' v)) (fun u => cxs ss up (g' u)) := by
  intro v p r hr
  rw [h (f' v) p r hr]
  exact cxs_congr (· < 128) up up (fun _ _ => rfl) ss (fun s hs i hi => partner_lt ⟨s, hss s hs⟩ ⟨i, hi⟩) _ _ (fun i hi => h' v p i hi) r hr

/-- A stage by pieces of `2 ^ s` rows. -/
theorem pairStage_acts (s h : ℕ) (hh : h = 2 ^ s) (hs : s < 7) (n : ℕ) (hn : 2 * n * h = 128) (asc : ℕ → Bool)
    (hc : Shape.Concatenates (List.replicate (2 * n) (SRows h)) SBlock 0) (up : ℕ → Bool)
    (hup : ∀ r : Fin 128, asc (r.val / 2 ^ s / 2) = up r.val) :
    Acts (pairStage h n hn asc hc) (cxs [s] up) := by
  subst hh
  intro v p r hr
  have hpos : 0 < 2 ^ s := Nat.two_pow_pos s
  have hq : r / 2 ^ s < 2 * n := by rw [Nat.div_lt_iff_lt_mul hpos, hn]; exact hr
  rw [cell_of_lt _ p hr]
  unfold pairStage
  rw [concatenate_ofFn_apply (t := SBlock) (s₁ := SRows (2 ^ s)) 0 (pairPiece (2 ^ s) n hn asc v) _ rfl (2 ^ s) rfl (rowIx r hr p) ⟨r / 2 ^ s, hq⟩ rfl
    (rowIx (r % 2 ^ s) (Nat.mod_lt _ hpos) p) rfl (fun b hb => by
      match b with
      | ⟨0, _⟩ => exact absurd rfl hb
      | ⟨1, _⟩ => rfl)]
  unfold pairPiece
  have hr' := pair_rows ⟨s, hs⟩ ⟨r, hr⟩
  have hu := hup ⟨r, hr⟩
  simp only at hr' hu
  show _ = cx s up (cell v p) r
  unfold cx
  simp only [hu]
  cases hb : r.testBit s
  · obtain ⟨e, e1, e2⟩ := hr'.1 hb
    rw [e]
    cases up r
    · exact (congrArg₂ max (rowsFrom_apply ..) (rowsFrom_apply ..)).trans (by rw [e1, e2]; rfl)
    · exact (congrArg₂ min (rowsFrom_apply ..) (rowsFrom_apply ..)).trans (by rw [e1, e2]; rfl)
  · obtain ⟨e, e1, e2⟩ := hr'.2 hb
    rw [e]
    cases up r
    · exact (congrArg₂ min (rowsFrom_apply ..) (rowsFrom_apply ..)).trans (by rw [e1, e2, min_comm]; rfl)
    · exact (congrArg₂ max (rowsFrom_apply ..) (rowsFrom_apply ..)).trans (by rw [e1, e2, max_comm]; rfl)

/-- A row after the rotation upwards. -/
theorem cell_rotUp (j k : ℕ) (hjk : j + k = 128) (hc : Shape.Concatenates [SRows k, SRows j] SBlock 0) (v : FVec Ideal SBlock .f32)
    (p : Fin 256) {r : ℕ} (hr : r < 128) : cell (rotUp j k hjk hc v) p r = cell v p ((r + j) % 128) := by
  rw [cell_of_lt _ p hr]
  unfold rotUp
  by_cases h : r < k
  · refine (concatenate_pair_apply_left 0 _ _ hc _ rfl (rowIx (h := k) r h p) (fun b => ?_)).trans ?_
    · match b with
      | ⟨0, _⟩ => rfl
      | ⟨1, _⟩ => rfl
    · rw [rowsFrom_apply, Nat.mod_eq_of_lt (by omega), Nat.add_comm]
  · refine (concatenate_pair_apply_right 0 _ _ hc _ rfl rfl (rowIx (h := j) (r - k) (by omega) p) (fun b hb => ?_) ?_).trans ?_
    · match b with
      | ⟨0, _⟩ => exact absurd rfl hb
      | ⟨1, _⟩ => rfl
    · show r - k + k = r
      omega
    · rw [rowsFrom_apply]
      exact congrArg _ (by omega)

/-- A row after the rotation downwards. -/
theorem cell_rotDown (j k : ℕ) (hjk : j + k = 128) (hc : Shape.Concatenates [SRows j, SRows k] SBlock 0) (v : FVec Ideal SBlock .f32)
    (p : Fin 256) {r : ℕ} (hr : r < 128) : cell (rotDown j k hjk hc v) p r = cell v p ((r + k) % 128) := by
  rw [cell_of_lt _ p hr]
  unfold rotDown
  by_cases h : r < j
  · refine (concatenate_pair_apply_left 0 _ _ hc _ rfl (rowIx (h := j) r h p) (fun b => ?_)).trans ?_
    · match b with
      | ⟨0, _⟩ => rfl
      | ⟨1, _⟩ => rfl
    · rw [rowsFrom_apply, Nat.mod_eq_of_lt (by omega), Nat.add_comm]
  · refine (concatenate_pair_apply_right 0 _ _ hc _ rfl rfl (rowIx (h := k) (r - j) (by omega) p) (fun b hb => ?_) ?_).trans ?_
    · match b with
      | ⟨0, _⟩ => exact absurd rfl hb
      | ⟨1, _⟩ => rfl
    · show r - j + j = r
      omega
    · rw [rowsFrom_apply]
      exact congrArg _ (by omega)

/-- The index of row `r` of a mask. -/
def maskIx (r : ℕ) (hr : r < 128) : SMask.Idx := fun a =>
  match a with
  | ⟨0, _⟩ => ⟨r, hr⟩
  | ⟨1, _⟩ => ⟨0, Nat.one_pos⟩

/-- A row picked by a mask. -/
theorem cell_pick (m : IVec SMask 1) (x y : FVec Ideal SBlock .f32) (p : Fin 256) {r : ℕ} (hr : r < 128) :
    cell (pick m x y) p r = if m (maskIx r hr) = 1 then cell x p r else cell y p r := by
  rw [cell_of_lt _ p hr, cell_of_lt _ p hr, cell_of_lt _ p hr]
  have e : broadcastTo SBlock (shapeCast SMask m maskCasts) maskBroadcasts (rowIx r hr p) = m (maskIx r hr) := by
    unfold broadcastTo shapeCast
    rw [Shape.reshapeEquiv_self]
    refine congrArg m ?_
    funext a
    match a with
    | ⟨0, _⟩ => rfl
    | ⟨1, _⟩ => rfl
  show Scalar.select (broadcastTo SBlock (shapeCast SMask m maskCasts) maskBroadcasts (rowIx r hr p)) _ _ = _
  rw [e]
  rfl

/-- The lesser of two blocks, row by row. -/
theorem cell_min (x y : FVec Ideal SBlock .f32) (p : Fin 256) {r : ℕ} (hr : r < 128) :
    cell (minimumf x y) p r = min (cell x p r) (cell y p r) := by
  rw [cell_of_lt _ p hr, cell_of_lt _ p hr, cell_of_lt _ p hr]; rfl

/-- The greater of two blocks, row by row. -/
theorem cell_max (x y : FVec Ideal SBlock .f32) (p : Fin 256) {r : ℕ} (hr : r < 128) :
    cell (maximumf x y) p r = max (cell x p r) (cell y p r) := by
  rw [cell_of_lt _ p hr, cell_of_lt _ p hr, cell_of_lt _ p hr]; rfl

section Masked

variable {j k : ℕ} (hjk : j + k = 128) (hu : Shape.Concatenates [SRows k, SRows j] SBlock 0)
  (hd : Shape.Concatenates [SRows j, SRows k] SBlock 0) {lo mi : IVec SMask 1} {s : ℕ} (hs : s < 7) (hj : j = 2 ^ s)
  (hlo : ∀ r : Fin 128, lo (maskIx r.val r.isLt) = BitVec.ofBool (!r.val.testBit s))

include hs hj hlo

/-- A stage under masks at distance `2 ^ s`. -/
theorem maskStage_acts (up : ℕ → Bool) (hmi : ∀ r : Fin 128, mi (maskIx r.val r.isLt) = BitVec.ofBool (!(r.val.testBit s == up r.val))) :
    Acts (maskStage j k hjk hu hd lo mi) (cxs [s] up) := by
  intro v p r hr
  have hr' := rot_rows ⟨s, hs⟩ ⟨r, hr⟩
  have h1 := hlo ⟨r, hr⟩
  have h2 := hmi ⟨r, hr⟩
  have hk : k = 128 - 2 ^ s := by omega
  simp only at hr' h1 h2
  show _ = cx s up (cell v p) r
  unfold maskStage cx
  rw [cell_pick _ _ _ _ hr, cell_min _ _ _ hr, cell_max _ _ _ hr, cell_pick _ _ _ _ hr, cell_rotUp _ _ _ _ _ _ hr, cell_rotDown _ _ _ _ _ _ hr, h1, h2,
    hj, hk]
  cases hb : r.testBit s
  · rw [hr'.1 hb]
    cases up r <;> simp
  · rw [hr'.2 hb]
    cases up r <;> simp

/-- An ascending stage at distance `2 ^ s`. -/
theorem ascStage_acts : Acts (ascStage j k hjk hu hd lo) (cxs [s] fun _ => true) := by
  intro v p r hr
  have hr' := rot_rows ⟨s, hs⟩ ⟨r, hr⟩
  have h1 := hlo ⟨r, hr⟩
  have hk : k = 128 - 2 ^ s := by omega
  simp only at hr' h1
  show _ = cx s (fun _ => true) (cell v p) r
  unfold ascStage cx
  rw [cell_pick _ _ _ _ hr, cell_min _ _ _ hr, cell_max _ _ _ hr, cell_rotUp _ _ _ _ _ _ hr, cell_rotDown _ _ _ _ _ _ hr, h1, hj, hk]
  cases hb : r.testBit s
  · rw [hr'.1 hb]; simp
  · rw [hr'.2 hb]; simp

/-- A descending stage at distance `2 ^ s`. -/
theorem descStage_acts : Acts (descStage j k hjk hu hd lo) (cxs [s] fun _ => false) := by
  intro v p r hr
  have hr' := rot_rows ⟨s, hs⟩ ⟨r, hr⟩
  have h1 := hlo ⟨r, hr⟩
  have hk : k = 128 - 2 ^ s := by omega
  simp only at hr' h1
  show _ = cx s (fun _ => false) (cell v p) r
  unfold descStage cx
  rw [cell_pick _ _ _ _ hr, cell_min _ _ _ hr, cell_max _ _ _ hr, cell_rotUp _ _ _ _ _ _ hr, cell_rotDown _ _ _ _ _ _ hr, h1, hj, hk]
  cases hb : r.testBit s
  · rw [hr'.1 hb]; simp
  · rw [hr'.2 hb]; simp

end Masked

/-- The rows whose number has bit `s` clear. -/
theorem bitClear_apply : ∀ s : Fin 7, ∀ r : Fin 128,
    bitClear (BitVec.ofNat 32 (2 ^ s.val)) (maskIx r.val r.isLt) = BitVec.ofBool (!r.val.testBit s) := by decide +kernel

/-- The rows that keep the lesser at distance `2 ^ s` of the level of runs of `2 ^ l` rows. -/
theorem bitsAgree_apply : ∀ s l : Fin 7, ∀ r : Fin 128,
    bitsAgree (BitVec.ofNat 32 (2 ^ s.val)) (BitVec.ofNat 32 (2 ^ l.val)) (maskIx r.val r.isLt)
      = BitVec.ofBool (!(r.val.testBit s == upAt l.val r.val)) := by decide +kernel

/-- The pairs of pieces at distance `2 ^ s` that ascend in the level of runs of `2 ^ (s + 1 + b)` rows. -/
theorem evenAt_apply : ∀ s b : Fin 7, ∀ r : Fin 128, evenAt b.val (r.val / 2 ^ s.val / 2) = upAt (s.val + 1 + b.val) r.val := by decide +kernel

/-- Stages at three distances one after another. -/
theorem cxs_three (a b c : ℕ) (up : ℕ → Bool) (u : ℕ → EReal) : cxs [c] up (cxs [b] up (cxs [a] up u)) = cxs [a, b, c] up u := by
  simp only [← cxs_append, List.cons_append, List.nil_append]

/-- Stages at four distances one after another. -/
theorem cxs_four (a b c d : ℕ) (up : ℕ → Bool) (u : ℕ → EReal) :
    cxs [d] up (cxs [c] up (cxs [b] up (cxs [a] up u))) = cxs [a, b, c, d] up u := by
  simp only [← cxs_append, List.cons_append, List.nil_append]

/-- Stages at four distances and three more. -/
theorem cxs_seven (a b c d e f g : ℕ) (up : ℕ → Bool) (u : ℕ → EReal) :
    cxs [g] up (cxs [f] up (cxs [e] up (cxs [a, b, c, d] up u))) = cxs [a, b, c, d, e, f, g] up u := by
  simp only [← cxs_append, List.cons_append, List.nil_append]

/-- The stages at distances 64, 32, 16 and 8. -/
theorem halves_acts (d : Bool) : Acts (halves d) (cxs [6, 5, 4, 3] fun _ => d) := by
  have h6 := pairStage_acts 6 64 rfl (by decide) 1 rfl (fun _ => d) pieces64 (fun _ => d) (fun _ => rfl)
  have h5 := pairStage_acts 5 32 rfl (by decide) 2 rfl (fun _ => d) pieces32 (fun _ => d) (fun _ => rfl)
  have h4 := pairStage_acts 4 16 rfl (by decide) 4 rfl (fun _ => d) pieces16 (fun _ => d) (fun _ => rfl)
  have h3 := pairStage_acts 3 8 rfl (by decide) 8 rfl (fun _ => d) pieces8 (fun _ => d) (fun _ => rfl)
  have h := Acts.comp (by decide) h3 (Acts.comp (by decide) h4 (Acts.comp (by decide) h5 h6))
  intro v p r hr
  unfold halves
  rw [← cxs_four]
  exact h v p r hr

/-- The ascending merge of a block. -/
theorem mergeAsc_acts : Acts mergeAsc (cxs [6, 5, 4, 3, 2, 1, 0] fun _ => true) := by
  have h2 := ascStage_acts rfl up4 down4 (s := 2) (by decide) rfl (bitClear_apply 2)
  have h1 := ascStage_acts rfl up2 down2 (s := 1) (by decide) rfl (bitClear_apply 1)
  have h0 := ascStage_acts rfl up1 down1 (s := 0) (by decide) rfl (bitClear_apply 0)
  have h := Acts.comp (by decide) h0 (Acts.comp (by decide) h1 (Acts.comp (by decide) h2 (halves_acts true)))
  intro v p r hr
  unfold mergeAsc
  rw [stored_eq, ← cxs_seven]
  exact h v p r hr

/-- The descending merge of a block. -/
theorem mergeDesc_acts : Acts mergeDesc (cxs [6, 5, 4, 3, 2, 1, 0] fun _ => false) := by
  have h2 := descStage_acts rfl up4 down4 (s := 2) (by decide) rfl (bitClear_apply 2)
  have h1 := descStage_acts rfl up2 down2 (s := 1) (by decide) rfl (bitClear_apply 1)
  have h0 := descStage_acts rfl up1 down1 (s := 0) (by decide) rfl (bitClear_apply 0)
  have h := Acts.comp (by decide) h0 (Acts.comp (by decide) h1 (Acts.comp (by decide) h2 (halves_acts false)))
  intro v p r hr
  unfold mergeDesc
  rw [stored_eq, ← cxs_seven]
  exact h v p r hr

/-- The masked stage at distance 1 of the level of runs of `2 ^ l` rows. -/
theorem mask1_acts (l : Fin 7) : Acts (maskStage 1 127 rfl up1 down1 (bitClear 1#32) (bitsAgree 1#32 (BitVec.ofNat 32 (2 ^ l.val)))) (cxs [0] (upAt l.val)) :=
  maskStage_acts rfl up1 down1 (s := 0) (by decide) rfl (bitClear_apply 0) _ (bitsAgree_apply 0 l)

/-- The masked stage at distance 2 of the level of runs of `2 ^ l` rows. -/
theorem mask2_acts (l : Fin 7) : Acts (maskStage 2 126 rfl up2 down2 (bitClear 2#32) (bitsAgree 2#32 (BitVec.ofNat 32 (2 ^ l.val)))) (cxs [1] (upAt l.val)) :=
  maskStage_acts rfl up2 down2 (s := 1) (by decide) rfl (bitClear_apply 1) _ (bitsAgree_apply 1 l)

/-- The masked stage at distance 4 of the level of runs of `2 ^ l` rows. -/
theorem mask4_acts (l : Fin 7) : Acts (maskStage 4 124 rfl up4 down4 (bitClear 4#32) (bitsAgree 4#32 (BitVec.ofNat 32 (2 ^ l.val)))) (cxs [2] (upAt l.val)) :=
  maskStage_acts rfl up4 down4 (s := 2) (by decide) rfl (bitClear_apply 2) _ (bitsAgree_apply 2 l)

/-- The masked stages at distances 4, 2 and 1 of the level of runs of `2 ^ l` rows. -/
theorem mask421_acts (l : Fin 7) : Acts (mask421 (bitClear 1#32) (bitClear 2#32) (bitClear 4#32) (bitsAgree 1#32 (BitVec.ofNat 32 (2 ^ l.val)))
    (bitsAgree 2#32 (BitVec.ofNat 32 (2 ^ l.val))) (bitsAgree 4#32 (BitVec.ofNat 32 (2 ^ l.val)))) (cxs [2, 1, 0] (upAt l.val)) := by
  have h := Acts.comp (by decide) (mask1_acts l) (Acts.comp (by decide) (mask2_acts l) (mask4_acts l))
  intro v p r hr
  unfold mask421
  rw [← cxs_three]
  exact h v p r hr

/-- The stage by pieces at distance 8 of the level of runs of `2 ^ (4 + b)` rows. -/
theorem piece8_acts (b : Fin 7) : Acts (pairStage 8 8 rfl (evenAt b.val) pieces8) (cxs [3] (upAt (3 + 1 + b.val))) :=
  pairStage_acts 3 8 rfl (by decide) 8 rfl _ pieces8 _ (evenAt_apply 3 b)

/-- The stage by pieces at distance 16 of the level of runs of `2 ^ (5 + b)` rows. -/
theorem piece16_acts (b : Fin 7) : Acts (pairStage 16 4 rfl (evenAt b.val) pieces16) (cxs [4] (upAt (4 + 1 + b.val))) :=
  pairStage_acts 4 16 rfl (by decide) 4 rfl _ pieces16 _ (evenAt_apply 4 b)

/-- The stage by pieces at distance 32 of the level of runs of `2 ^ (6 + b)` rows. -/
theorem piece32_acts (b : Fin 7) : Acts (pairStage 32 2 rfl (evenAt b.val) pieces32) (cxs [5] (upAt (5 + 1 + b.val))) :=
  pairStage_acts 5 32 rfl (by decide) 2 rfl _ pieces32 _ (evenAt_apply 5 b)

/-- The levels up to runs of 64 rows, stage by stage. -/
theorem levels_six (u : ℕ → EReal) : levels 6 u =
    cxs [2, 1, 0] (upAt 6) (cxs [3] (upAt 6) (cxs [4] (upAt 6) (cxs [5] (upAt 6)
      (cxs [2, 1, 0] (upAt 5) (cxs [3] (upAt 5) (cxs [4] (upAt 5)
        (cxs [2, 1, 0] (upAt 4) (cxs [3] (upAt 4)
          (cxs [2, 1, 0] (upAt 3) (cxs [0] (upAt 2) (cxs [1] (upAt 2) (cxs [0] (upAt 1) u)))))))))))) := by
  simp only [← cxs_append, List.cons_append, List.nil_append]
  rfl

/-- The sort of the block's halves is the levels up to runs of 64 rows. -/
theorem sortHalves_acts : Acts sortHalves (levels 6) := by
  have v1 := mask1_acts 1
  have v2 := Acts.comp (by decide) (mask1_acts 2) (Acts.comp (by decide) (mask2_acts 2) v1)
  have v3 := Acts.comp (by decide) (mask421_acts 3) v2
  have v4 := Acts.comp (by decide) (mask421_acts 4) (Acts.comp (by decide) (piece8_acts 0) v3)
  have v5 := Acts.comp (by decide) (mask421_acts 5) (Acts.comp (by decide) (piece8_acts 1) (Acts.comp (by decide) (piece16_acts 0) v4))
  have v6 := Acts.comp (by decide) (mask421_acts 6) (Acts.comp (by decide) (piece8_acts 2)
    (Acts.comp (by decide) (piece16_acts 1) (Acts.comp (by decide) (piece32_acts 0) v5)))
  intro v p r hr
  unfold sortHalves
  simp only [stored_eq]
  rw [levels_six]
  exact v6 v p r hr

end Cert.Stages
-- ==== Proof.ColumnLoops.lean ====
/-
  What loops over windows of rows do to the columns of an array of 2048 rows, the floats read as extended reals. Trips over
  disjoint sets of rows, each of which sees and writes its own rows only, act together as one function of the column on the
  rows they cover. So a loop of merges in place, and a loop of exchanges of two windows, are stages of the network on the
  rows of their direction, and an ascending and a descending loop together are the stages of a level on all rows.
-/
module

public import proofs.«01_k».proof.Proof.WindowRuns
public import proofs.«01_k».proof.Proof.BlockValues

@[expose] public section

set_option maxRecDepth 16384

noncomputable section

namespace Cert.ColumnLoops

open Idealize.ShloMosaic
open Cert.NetColumn Cert.Stages Cert.WindowRuns

/-- Trips over disjoint sets of positions, each a function `G` local to its own set, are `G` on the positions covered. -/
theorem trips_local {X ι β : Type} (get : X → ι → β) {n : ℕ} (step : Fin n → X → X) (A : Fin n → ι → Prop) (G : (ι → β) → ι → β)
    (hdis : ∀ k k', k ≠ k' → ∀ i, A k i → ¬ A k' i)
    (hloc : ∀ k (u u' : ι → β), (∀ i, A k i → u i = u' i) → ∀ i, A k i → G u i = G u' i)
    (hin : ∀ k y i, A k i → get (step k y) i = G (get y) i) (hout : ∀ k y i, ¬ A k i → get (step k y) i = get y i) (x : X) (i : ι) :
    (∀ k, A k i → get (runTrips step x) i = G (get x) i) ∧ ((∀ k, ¬ A k i) → get (runTrips step x) i = get x i) := by
  have key : ∀ (ks : List (Fin n)), ks.Nodup → ∀ x : X, (∀ k ∈ ks, A k i → get (ks.foldl (fun y k => step k y) x) i = G (get x) i)
      ∧ ((∀ k ∈ ks, ¬ A k i) → get (ks.foldl (fun y k => step k y) x) i = get x i) := by
    intro ks
    induction ks with
    | nil => intro _ x; exact ⟨fun k hk => absurd hk List.not_mem_nil, fun _ => rfl⟩
    | cons k0 ks ih =>
      intro hnd x
      obtain ⟨hk0, hnd'⟩ := List.nodup_cons.mp hnd
      obtain ⟨ih1, ih2⟩ := ih hnd' (step k0 x)
      refine ⟨fun k hk hA => ?_, fun hno => ?_⟩
      · rw [List.foldl_cons]
        rcases List.mem_cons.mp hk with rfl | hk'
        · rw [ih2 fun k' hk' => hdis k k' (fun e => hk0 (e ▸ hk')) i hA]
          exact hin k x i hA
        · rw [ih1 k hk' hA]
          refine hloc k _ _ (fun j hj => hout k0 x j ?_) i hA
          exact hdis k k0 (fun e => hk0 (e ▸ hk')) j hj
      · rw [List.foldl_cons, ih2 fun k hk => hno k (List.mem_cons_of_mem _ hk)]
        exact hout k0 x i (hno k0 List.mem_cons_self)
  obtain ⟨h1, h2⟩ := key (List.finRange n) (List.nodup_finRange n) x
  exact ⟨fun k => h1 k (List.mem_finRange k), fun h => h2 fun k _ => h k⟩

/-- A row of a window. -/
theorem cell_window {H : ℕ} (y : FVec Ideal (SRows 2048) .f32) (off : Fin 2 → ℕ) (inb : ∀ a, off a + (SRows H).size a ≤ (SRows 2048).size a)
    (h1 : off 1 = 0) (p : Fin 256) {r : ℕ} (hr : r < H) :
    cell (h := H) (VecWindow.window (s := SRows 2048) y off (SRows H).size inb) p r = cell y p (off 0 + r) := by
  have h0 : off 0 + H ≤ 2048 := inb 0
  rw [cell_of_lt _ p hr, cell_of_lt y p (show off 0 + r < 2048 by omega)]
  unfold VecWindow.window
  refine congrArg y ?_
  funext a
  match a with
  | ⟨0, _⟩ =>
    refine Fin.ext ?_
    show off 0 + 1 * r = off 0 + r
    omega
  | ⟨1, _⟩ =>
    refine Fin.ext ?_
    show off 1 + 1 * p.val = p.val
    omega

/-- A row of a window just put. -/
theorem cell_put_in {H : ℕ} (y : FVec Ideal (SRows 2048) .f32) (off : Fin 2 → ℕ) (inb : ∀ a, off a + (SRows H).size a ≤ (SRows 2048).size a)
    (h1 : off 1 = 0) (w : FVec Ideal (SRows H) .f32) (p : Fin 256) {r : ℕ} (hr : r < H) :
    cell (h := 2048) (VecWindow.put (s := SRows 2048) y off (SRows H).size w) p (off 0 + r) = cell w p r := by
  have e := VecWindow.window_put_same (s := SRows 2048) y off (SRows H).size inb w
  rw [← cell_window (VecWindow.put (s := SRows 2048) y off (SRows H).size w) off inb h1 p hr]
  exact congrArg (fun z : FVec Ideal (SRows H) .f32 => cell z p r) e

/-- A row outside a window just put. -/
theorem cell_put_out {H : ℕ} (y : FVec Ideal (SRows 2048) .f32) (off : Fin 2 → ℕ) (w : FVec Ideal (SRows H) .f32) (p : Fin 256) {r : ℕ}
    (hr : r < off 0 ∨ off 0 + H ≤ r) :
    cell (h := 2048) (VecWindow.put (s := SRows 2048) y off (SRows H).size w) p r = cell y p r := by
  unfold cell
  by_cases h : r < 2048
  · rw [dif_pos h, dif_pos h]
    unfold VecWindow.put
    refine dif_neg fun hall => ?_
    have h0 : off 0 ≤ r ∧ r < off 0 + H := hall 0
    omega
  · rw [dif_neg h, dif_neg h]

/-- A power of two on from a multiple of a greater power. -/
theorem xor_low (m b i s : ℕ) (hi : i < 2 ^ m) (hs : s < m) : (2 ^ m * b + i) ^^^ 2 ^ s = 2 ^ m * b + (i ^^^ 2 ^ s) := by
  have hlt : i ^^^ 2 ^ s < 2 ^ m := Nat.xor_lt_two_pow hi (Nat.pow_lt_pow_right (by decide) hs)
  refine Nat.eq_of_testBit_eq fun t => ?_
  rw [Nat.testBit_xor, Nat.testBit_two_pow_mul_add b hi, Nat.testBit_two_pow_mul_add b hlt, Nat.testBit_xor]
  by_cases ht : t < m
  · rw [if_pos ht, if_pos ht]
  · rw [if_neg ht, if_neg ht, Nat.testBit_two_pow_of_ne (by omega), Bool.xor_false]

/-- A multiple of a power of two flips its own bit within a multiple. -/
theorem xor_high (m b i e : ℕ) (hi : i < 2 ^ m) : (2 ^ m * b + i) ^^^ 2 ^ (m + e) = 2 ^ m * (b ^^^ 2 ^ e) + i := by
  refine Nat.eq_of_testBit_eq fun t => ?_
  rw [Nat.testBit_xor, Nat.testBit_two_pow_mul_add b hi, Nat.testBit_two_pow_mul_add _ hi, Nat.testBit_xor, Nat.testBit_two_pow, Nat.testBit_two_pow]
  by_cases ht : t < m
  · rw [if_pos ht, if_pos ht, decide_eq_false (by omega), Bool.xor_false]
  · rw [if_neg ht, if_neg ht]
    congr 1
    exact decide_eq_decide.mpr (by omega)

/-- What a function of columns makes of a block of 128 rows depends on the block alone, wherever it lies. -/
def Shifts (g : (ℕ → EReal) → ℕ → EReal) : Prop :=
  ∀ (b : ℕ) (u u' : ℕ → EReal), (∀ i, i < 128 → u (128 * b + i) = u' i) → ∀ i, i < 128 → g u (128 * b + i) = g u' i

/-- Stages within blocks depend on the block alone. -/
theorem cxs_shifts (up : ℕ → Bool) (hup : ∀ b i, i < 128 → up (128 * b + i) = up i) (ss : List ℕ) (hss : ∀ s ∈ ss, s < 7) : Shifts (cxs ss up) := by
  intro b
  induction ss with
  | nil => exact fun u u' h => h
  | cons s ss ih =>
    intro u u' h
    have hs := hss s List.mem_cons_self
    refine ih (fun t ht => hss t (List.mem_cons_of_mem _ ht)) (cx s up u) (cx s up u') fun i hi => ?_
    unfold cx
    have e1 : (128 * b + i).testBit s = i.testBit s := by
      rw [show (128 : ℕ) = 2 ^ 7 from rfl, Nat.testBit_two_pow_mul_add b hi, if_pos hs]
    rw [hup b i hi, e1, show (128 * b + i) ^^^ 2 ^ s = 128 * b + (i ^^^ 2 ^ s) from xor_low 7 b i s hi hs, h i hi, h _ (partner_lt ⟨s, hs⟩ ⟨i, hi⟩)]

/-- One direction throughout. -/
theorem cxs_const_shifts (d : Bool) (ss : List ℕ) (hss : ∀ s ∈ ss, s < 7) : Shifts (cxs ss fun _ => d) :=
  cxs_shifts _ (fun _ _ _ => rfl) ss hss

/-- The levels up to runs of 64 rows depend on the block of 128 rows alone. -/
theorem levels_shifts : ∀ p, p ≤ 6 → Shifts (levels p)
  | 0, _ => fun _ _ _ h => h
  | p + 1, hp => fun b u u' h i hi => by
    rw [levels_succ, levels_succ]
    refine cxs_shifts (upAt (p + 1)) (fun b i hi => ?_) _ (fun s hs => ?_) b _ _ (levels_shifts p (by omega) b u u' h) i hi
    · unfold upAt
      rw [show (128 : ℕ) = 2 ^ 7 from rfl, Nat.testBit_two_pow_mul_add b hi, if_pos (by omega)]
    · have := List.mem_range.mp (List.mem_reverse.mp hs); omega

/-- A loop that rewrites blocks of 128 rows in place: the blocks it visits hold the function's column, the others what they
held. -/
theorem inPlaceLoop_cell {n : ℕ} (off : Fin n → Fin 2 → ℕ) (inb : ∀ k, ∀ a, off k a + (SRows 128).size a ≤ (SRows 2048).size a)
    (hoff : ∀ k, off k 0 % 128 = 0 ∧ off k 1 = 0) (hinj : ∀ k k', off k 0 = off k' 0 → k = k')
    {f : FVec Ideal SBlock .f32 → FVec Ideal SBlock .f32} {g : (ℕ → EReal) → ℕ → EReal} (hf : Acts f g) (hg : Shifts g)
    (x : FVec Ideal (SRows 2048) .f32) (p : Fin 256) (r : ℕ) :
    (∀ k, r / 128 = off k 0 / 128 → cell (h := 2048) (inPlaceLoop (s := SRows 2048) off (SRows 128).size inb f x) p r = g (cell x p) r)
    ∧ ((∀ k, ¬ r / 128 = off k 0 / 128) → cell (h := 2048) (inPlaceLoop (s := SRows 2048) off (SRows 128).size inb f x) p r = cell x p r) := by
  unfold inPlaceLoop
  refine trips_local (fun y : FVec Ideal (SRows 2048) .f32 => cell y p) _ (fun k i => i / 128 = off k 0 / 128) g ?_ ?_ ?_ ?_ x r
  · intro k k' hk i h h'
    have := (hoff k).1
    have := (hoff k').1
    exact hk (hinj k k' (by omega))
  · intro k u u' h i hi
    have e : i = 128 * (off k 0 / 128) + i % 128 := by omega
    rw [e, hg _ u (fun j => u (128 * (off k 0 / 128) + j)) (fun _ _ => rfl) _ (Nat.mod_lt _ (by decide)),
      hg _ u' (fun j => u (128 * (off k 0 / 128) + j)) (fun j hj => (h _ (by omega)).symm) _ (Nat.mod_lt _ (by decide))]
  · intro k y i hi
    have h0 := (hoff k).1
    have e : i = off k 0 + i % 128 := by omega
    have e' : off k 0 = 128 * (off k 0 / 128) := by omega
    have hlt : i % 128 < 128 := Nat.mod_lt _ (by decide)
    show cell (h := 2048) (inPlaceStep (s := SRows 2048) (off k) (SRows 128).size (inb k) f y) p i = g (cell y p) i
    rw [e]
    unfold inPlaceStep
    refine (cell_put_in y (off k) (inb k) (hoff k).2 _ p hlt).trans ((hf _ p _ hlt).trans ?_)
    have hs := hg (off k 0 / 128) (cell y p) (cell (h := 128) (VecWindow.window (s := SRows 2048) y (off k) (SRows 128).size (inb k)) p)
      (fun j hj => by rw [cell_window y (off k) (inb k) (hoff k).2 p hj, ← e']) (i % 128) hlt
    rw [← e'] at hs
    exact hs.symm
  · intro k y i hi
    have h0 := (hoff k).1
    exact cell_put_out y (off k) _ p (by omega)

/-- A loop that exchanges two windows of `2 ^ m` rows per trip, at distance `2 ^ (m + e)`: the windows it visits hold the
stage's column, the others what they held. -/
theorem exchangeLoop_cell {n : ℕ} (H m e : ℕ) (hH : H = 2 ^ m) (off off' : Fin n → Fin 2 → ℕ)
    (inb : ∀ k, ∀ a, off k a + (SRows H).size a ≤ (SRows 2048).size a) (inb' : ∀ k, ∀ a, off' k a + (SRows H).size a ≤ (SRows 2048).size a)
    (hoff : ∀ k, off k 0 = H * (off k 0 / H) ∧ off k 1 = 0 ∧ off' k 0 = H * ((off k 0 / H) ^^^ 2 ^ e) ∧ off' k 1 = 0 ∧ (off k 0 / H).testBit e = false)
    (hinj : ∀ k k', off k 0 = off k' 0 → k = k') (d : Bool)
    {f f' : FVec Ideal (SRows H) .f32 → FVec Ideal (SRows H) .f32 → FVec Ideal (SRows H) .f32}
    (hf : ∀ v w p r, r < H → cell (f v w) p r = if d then min (cell v p r) (cell w p r) else max (cell v p r) (cell w p r))
    (hf' : ∀ v w p r, r < H → cell (f' v w) p r = if d then max (cell v p r) (cell w p r) else min (cell v p r) (cell w p r))
    (x : FVec Ideal (SRows 2048) .f32) (p : Fin 256) (r : ℕ) :
    (∀ k, (r / H = off k 0 / H ∨ r / H = (off k 0 / H) ^^^ 2 ^ e) →
      cell (h := 2048) (exchangeLoop (s := SRows 2048) off off' (SRows H).size inb inb' f f' x) p r = cx (m + e) (fun _ => d) (cell x p) r)
    ∧ ((∀ k, ¬ (r / H = off k 0 / H ∨ r / H = (off k 0 / H) ^^^ 2 ^ e)) →
      cell (h := 2048) (exchangeLoop (s := SRows 2048) off off' (SRows H).size inb inb' f f' x) p r = cell x p r) := by
  have hpos : 0 < H := hH ▸ Nat.two_pow_pos m
  have hne : ∀ a a' : ℕ, a.testBit e = false → a'.testBit e = false → a ≠ a' ^^^ 2 ^ e := fun a a' h h' hh => by
    have := testBit_partner_self a' e
    rw [← hh, h, h'] at this
    exact absurd this (by decide)
  have hbit : ∀ a j, j < H → (H * a + j).testBit (m + e) = a.testBit e := fun a j hj => by
    rw [hH, Nat.testBit_two_pow_mul_add a (hH ▸ hj), if_neg (by omega), Nat.add_sub_cancel_left]
  have hxor : ∀ a j, j < H → (H * a + j) ^^^ 2 ^ (m + e) = H * (a ^^^ 2 ^ e) + j := fun a j hj => by
    rw [hH]; exact xor_high m a j e (hH ▸ hj)
  have hback : ∀ a : ℕ, a ^^^ 2 ^ e ^^^ 2 ^ e = a := fun a => by rw [Nat.xor_assoc, Nat.xor_self, Nat.xor_zero]
  have hdiv : ∀ a j, j < H → (H * a + j) / H = a := fun a j hj => by
    rw [Nat.mul_add_div hpos, Nat.div_eq_of_lt hj, Nat.add_zero]
  have hout : ∀ (i a o : ℕ), o = H * a → i / H ≠ a → i < o ∨ o + H ≤ i := fun i a o ho hi => by
    by_contra hc
    rw [not_or, not_lt, not_le] at hc
    refine hi ?_
    rw [show i = H * a + (i - o) by omega]
    exact hdiv a _ (by omega)
  unfold exchangeLoop
  refine trips_local (fun y : FVec Ideal (SRows 2048) .f32 => cell y p) _ (fun k i => i / H = off k 0 / H ∨ i / H = (off k 0 / H) ^^^ 2 ^ e)
    (cx (m + e) fun _ => d) ?_ ?_ ?_ ?_ x r
  · intro k k' hk i h h'
    obtain ⟨h0, -, -, -, hb⟩ := hoff k
    obtain ⟨h0', -, -, -, hb'⟩ := hoff k'
    have hak : off k 0 / H ≠ off k' 0 / H := fun hh => hk (hinj k k' (by rw [h0, h0', hh]))
    rcases h with h | h <;> rcases h' with h' | h'
    · exact hak (h.symm.trans h')
    · exact hne _ _ hb hb' (h.symm.trans h')
    · exact hne _ _ hb' hb (h'.symm.trans h)
    · exact hak (by rw [← hback (off k 0 / H), ← hback (off k' 0 / H), ← h, ← h'])
  · intro k u u' h i hi
    have hlt : i % H < H := Nat.mod_lt _ hpos
    have ei : i = H * (i / H) + i % H := (Nat.div_add_mod i H).symm
    have hpart : (i ^^^ 2 ^ (m + e)) / H = (i / H) ^^^ 2 ^ e := by
      rw [ei, hxor _ _ hlt, hdiv _ _ hlt, hdiv _ _ hlt]
    unfold cx
    rw [h i hi, h (i ^^^ 2 ^ (m + e)) (by
      rw [hpart]
      rcases hi with hi | hi
      · rw [hi]; exact Or.inr rfl
      · rw [hi, hback]; exact Or.inl rfl)]
  · intro k y i hi
    obtain ⟨h0, h1, h0', h1', hb⟩ := hoff k
    have hlt : i % H < H := Nat.mod_lt _ hpos
    have ei : i = H * (i / H) + i % H := (Nat.div_add_mod i H).symm
    have hn : off k 0 / H ≠ off k 0 / H ^^^ 2 ^ e := hne _ _ hb hb
    show cell (h := 2048) (exchangeStep (s := SRows 2048) (off k) (off' k) (SRows H).size (inb k) (inb' k) f f' y) p i = cx (m + e) _ (cell y p) i
    unfold exchangeStep cx
    rcases hi with hi | hi
    · have ei' : i = off k 0 + i % H := by rw [h0, ← hi]; exact ei
      have hx : i ^^^ 2 ^ (m + e) = off' k 0 + i % H := by
        have hxx := hxor (i / H) (i % H) hlt
        rw [← ei] at hxx
        rw [hxx, hi, ← h0']
      have hbi : i.testBit (m + e) = false := by rw [ei, hbit _ _ hlt, hi, hb]
      rw [hx, hbi]
      refine (cell_put_out _ (off' k) _ p (hout i _ _ h0' (by rw [hi]; exact hn))).trans ?_
      rw [ei']
      refine (cell_put_in y (off k) (inb k) h1 _ p hlt).trans ((hf _ _ p _ hlt).trans ?_)
      have e3 : (off k 0 + i % H) % H = i % H := by rw [← ei']
      rw [cell_window y (off k) (inb k) h1 p hlt, cell_window y (off' k) (inb' k) h1' p hlt, e3]
      cases d <;> rfl
    · have ei' : i = off' k 0 + i % H := by rw [h0', ← hi]; exact ei
      have hx : i ^^^ 2 ^ (m + e) = off k 0 + i % H := by
        have hxx := hxor (i / H) (i % H) hlt
        rw [← ei] at hxx
        rw [hxx, hi, hback, ← h0]
      have hbi : i.testBit (m + e) = true := by rw [ei, hbit _ _ hlt, hi, testBit_partner_self, hb]; rfl
      rw [hx, hbi]
      rw [ei']
      refine (cell_put_in _ (off' k) (inb' k) h1' _ p hlt).trans ((hf' _ _ p _ hlt).trans ?_)
      have e3 : (off' k 0 + i % H) % H = i % H := by rw [← ei']
      rw [cell_window y (off k) (inb k) h1 p hlt, cell_window y (off' k) (inb' k) h1' p hlt, e3,
        max_comm, min_comm]
      cases d <;> rfl
  · intro k y i hi
    obtain ⟨h0, h1, h0', h1', hb⟩ := hoff k
    rw [not_or] at hi
    exact (cell_put_out _ (off' k) _ p (hout i _ _ h0' hi.2)).trans (cell_put_out y (off k) _ p (hout i _ _ h0 hi.1))

end Cert.ColumnLoops
-- ==== Proof.SortValues.lean ====
/-
  The kernel's sort of its scratch array, the floats read as extended reals: each loop is a stage, or the last seven stages,
  of a level on the rows of its direction, the loops of a level together are that level, and the eleven levels are the
  sorting network. So every column comes out ascending and is a rearrangement of what it was.
-/
module

public import proofs.«01_k».proof.Proof.IdealVals
public import proofs.«01_k».proof.Proof.ColumnLoops

@[expose] public section

set_option maxRecDepth 16384

noncomputable section

namespace Cert.KernelIdeal.Gen

open Idealize.ShloMosaic
open Cert.NetColumn Cert.Stages Cert.ColumnLoops

/-- The scratch array's values. -/
abbrev Rows : Type := FVec Ideal S2048x256 .f32

/-- The entry of column `p` in row `r` of the scratch array. -/
abbrev entry (x : Rows) (p : Fin 256) (r : ℕ) : EReal := cell (h := 2048) x p r

/-- What a function of arrays does to every column. -/
def ActsAll (f : Rows → Rows) (g : (ℕ → EReal) → ℕ → EReal) : Prop := ∀ x p r, r < 2048 → entry (f x) p r = g (entry x p) r

/-- A row's partner within the array lies in the array. -/
theorem partner_lt_all {s r : ℕ} (hs : s < 11) (hr : r < 2048) : r ^^^ 2 ^ s < 2048 :=
  Nat.xor_lt_two_pow (n := 11) hr (Nat.pow_lt_pow_right (by decide) hs)

/-- Stages after another function of arrays. -/
theorem ActsAll.comp {f f' : Rows → Rows} {ss : List ℕ} {up : ℕ → Bool} {g' : (ℕ → EReal) → ℕ → EReal}
    (hss : ∀ s ∈ ss, s < 11) (h : ActsAll f (cxs ss up)) (h' : ActsAll f' g') : ActsAll (fun v => f (f' v)) (fun u => cxs ss up (g' u)) := by
  intro v p r hr
  rw [h (f' v) p r hr]
  exact cxs_congr (· < 2048) up up (fun _ _ => rfl) ss (fun s hs i hi => partner_lt_all (hss s hs) hi) _ _ (fun i hi => h' v p i hi) r hr

/-- A function of arrays that does the stages on the rows whose direction in the level of runs of `2 ^ L` rows is `d`, and
leaves the others. -/
def Half (f : Rows → Rows) (ss : List ℕ) (L : ℕ) (d : Bool) : Prop :=
  ∀ x p r, r < 2048 → (upAt L r = d → entry (f x) p r = cxs ss (fun _ => d) (entry x p) r) ∧ (upAt L r = !d → entry (f x) p r = entry x p r)

/-- The stages on the ascending rows and then on the descending rows are the stages on all rows. -/
theorem Half.both {f f' : Rows → Rows} {ss : List ℕ} {L : ℕ} (hss : ∀ s ∈ ss, s < 11 ∧ s ≠ L) (h : Half f ss L true)
    (h' : Half f' ss L false) : ActsAll (fun x => f' (f x)) (cxs ss (upAt L)) := by
  intro x p r hr
  have closed : ∀ d, ∀ s ∈ ss, ∀ i, (i < 2048 ∧ upAt L i = d) → (i ^^^ 2 ^ s < 2048 ∧ upAt L (i ^^^ 2 ^ s) = d) := fun d s hs i hi =>
    ⟨partner_lt_all (hss s hs).1 hi.1, by unfold upAt at hi ⊢; rw [testBit_partner (hss s hs).2]; exact hi.2⟩
  cases hd : upAt L r
  · rw [(h' (f x) p r hr).1 hd]
    exact cxs_congr (fun i => i < 2048 ∧ upAt L i = false) _ (upAt L) (fun i hi => hi.2.symm) ss (closed false) _ _
      (fun i hi => (h x p i hi.1).2 hi.2) r ⟨hr, hd⟩
  · rw [(h' (f x) p r hr).2 hd, (h x p r hr).1 hd]
    exact cxs_congr (fun i => i < 2048 ∧ upAt L i = true) _ (upAt L) (fun i hi => hi.2.symm) ss (closed true) _ _
      (fun i _ => rfl) r ⟨hr, hd⟩

/-- In the last level all rows ascend. -/
theorem Half.all {f : Rows → Rows} {ss : List ℕ} (hss : ∀ s ∈ ss, s < 11) (h : Half f ss 11 true) : ActsAll f (cxs ss (upAt 11)) := by
  have up : ∀ i, i < 2048 → upAt 11 i = true := fun i hi => by
    unfold upAt; rw [Nat.testBit_lt_two_pow (show i < 2 ^ 11 from hi)]; rfl
  intro x p r hr
  rw [(h x p r hr).1 (up r hr)]
  exact cxs_congr (· < 2048) _ _ (fun i hi => (up i hi).symm) ss (fun s hs i hi => partner_lt_all (hss s hs) hi) _ _ (fun _ _ => rfl) r hr

/-- A row's direction is that of its window. -/
theorem upAt_div (m q r : ℕ) : upAt (m + q) r = upAt q (r / 2 ^ m) := by
  unfold upAt; rw [Nat.testBit_div_two_pow, Nat.add_comm]

/-- A loop of merges in place over the blocks of one direction. -/
theorem rowsIn_half {n : ℕ} (off : Fin n → Fin S2048x256.rank → ℕ) (inb : ∀ k, ∀ a, off k a + S128x256.size a ≤ S2048x256.size a)
    (hoff : ∀ k, off k 0 % 128 = 0 ∧ off k 1 = 0) (hinj : ∀ k k', off k 0 = off k' 0 → k = k') (q : ℕ) (d : Bool)
    (hcov : ∀ c : Fin 16, (∃ k, c.val = off k 0 / 128) ↔ upAt q c.val = d)
    {f : FVec Ideal SBlock .f32 → FVec Ideal SBlock .f32} (hf : Acts f (cxs [6, 5, 4, 3, 2, 1, 0] fun _ => d)) :
    Half (rowsIn off inb f) [6, 5, 4, 3, 2, 1, 0] (7 + q) d := by
  intro x p r hr
  have hcell := inPlaceLoop_cell off inb hoff hinj hf (cxs_const_shifts d _ (by decide)) x p r
  have hc := hcov ⟨r / 128, by omega⟩
  have hu : upAt (7 + q) r = upAt q (r / 128) := upAt_div 7 q r
  rw [hu]
  refine ⟨fun h => ?_, fun h => hcell.2 fun k hk => ?_⟩
  · obtain ⟨k, hk⟩ := hc.mpr h
    exact hcell.1 k hk
  · have h2 := hc.mp ⟨k, hk⟩
    rw [h] at h2
    cases d <;> exact absurd h2 (by decide)

/-- The sort of the blocks of 64 rows. -/
theorem level64_acts : ActsAll level64 (levels 6) := by
  intro x p r hr
  have hoff : ∀ k, k0_off1 k 0 % 128 = 0 ∧ k0_off1 k 1 = 0 := by decide +kernel
  have hinj : ∀ k k', k0_off1 k 0 = k0_off1 k' 0 → k = k' := by decide +kernel
  have hcov : ∀ c : Fin 16, ∃ k, c.val = k0_off1 k 0 / 128 := by decide +kernel
  have hcell := inPlaceLoop_cell k0_off1 k0_off1_inb hoff hinj sortHalves_acts (levels_shifts 6 (by decide)) x p r
  obtain ⟨k, hk⟩ := hcov ⟨r / 128, by omega⟩
  exact hcell.1 k hk

/-- The lesser or the greater of two windows, row by row. -/
theorem first_cell (H : ℕ) (hs : (SRows H).ShapeCasts (SRows H)) (d : Bool) (v w : FVec Ideal (SRows H) .f32) (p : Fin 256) (r : ℕ) (hr : r < H) :
    cell (first d (SRows H) hs v w) p r = if d then min (cell v p r) (cell w p r) else max (cell v p r) (cell w p r) := by
  rw [cell_of_lt _ p hr, cell_of_lt _ p hr, cell_of_lt _ p hr]
  cases d
  · show greater (SRows H) hs v w _ = _
    unfold greater
    rw [stored_eq]; rfl
  · show lesser (SRows H) hs v w _ = _
    unfold lesser
    rw [stored_eq]; rfl

/-- The other of two windows, row by row. -/
theorem second_cell (H : ℕ) (hs : (SRows H).ShapeCasts (SRows H)) (d : Bool) (v w : FVec Ideal (SRows H) .f32) (p : Fin 256) (r : ℕ) (hr : r < H) :
    cell (first (!d) (SRows H) hs v w) p r = if d then max (cell v p r) (cell w p r) else min (cell v p r) (cell w p r) := by
  rw [first_cell H hs (!d) v w p r hr]
  cases d <;> rfl

/-- A loop of exchanges of two blocks of 128 rows, at distance `2 ^ (7 + e)`, over the rows of one direction. -/
theorem rows128_half {n : ℕ} (off off' : Fin n → Fin S2048x256.rank → ℕ) (inb : ∀ k, ∀ a, off k a + S128x256.size a ≤ S2048x256.size a)
    (inb' : ∀ k, ∀ a, off' k a + S128x256.size a ≤ S2048x256.size a) (e q : ℕ) (d : Bool)
    (hoff : ∀ k, off k 0 = 128 * (off k 0 / 128) ∧ off k 1 = 0 ∧ off' k 0 = 128 * ((off k 0 / 128) ^^^ 2 ^ e) ∧ off' k 1 = 0 ∧ (off k 0 / 128).testBit e = false)
    (hinj : ∀ k k', off k 0 = off k' 0 → k = k')
    (hcov : ∀ c : Fin 16, (∃ k, c.val = off k 0 / 128 ∨ c.val = (off k 0 / 128) ^^^ 2 ^ e) ↔ upAt q c.val = d) :
    Half (rows128 off off' inb inb' d) [7 + e] (7 + q) d := by
  intro x p r hr
  have hcell := exchangeLoop_cell 128 7 e rfl off off' inb inb' hoff hinj d (first_cell 128 blockCasts d) (second_cell 128 blockCasts d) x p r
  have hc := hcov ⟨r / 128, by omega⟩
  have hu : upAt (7 + q) r = upAt q (r / 128) := upAt_div 7 q r
  rw [hu]
  refine ⟨fun h => ?_, fun h => hcell.2 fun k hk => ?_⟩
  · obtain ⟨k, hk⟩ := hc.mpr h
    exact hcell.1 k hk
  · have h2 := hc.mp ⟨k, hk⟩
    rw [h] at h2
    cases d <;> exact absurd h2 (by decide)

/-- A loop of exchanges of two blocks of 256 rows, at distance `2 ^ (8 + e)`, over the rows of one direction. -/
theorem rows256_half {n : ℕ} (off off' : Fin n → Fin S2048x256.rank → ℕ) (inb : ∀ k, ∀ a, off k a + S256x256.size a ≤ S2048x256.size a)
    (inb' : ∀ k, ∀ a, off' k a + S256x256.size a ≤ S2048x256.size a) (e q : ℕ) (d : Bool)
    (hoff : ∀ k, off k 0 = 256 * (off k 0 / 256) ∧ off k 1 = 0 ∧ off' k 0 = 256 * ((off k 0 / 256) ^^^ 2 ^ e) ∧ off' k 1 = 0 ∧ (off k 0 / 256).testBit e = false)
    (hinj : ∀ k k', off k 0 = off k' 0 → k = k')
    (hcov : ∀ c : Fin 8, (∃ k, c.val = off k 0 / 256 ∨ c.val = (off k 0 / 256) ^^^ 2 ^ e) ↔ upAt q c.val = d) :
    Half (rows256 off off' inb inb' d) [8 + e] (8 + q) d := by
  intro x p r hr
  have hcell := exchangeLoop_cell 256 8 e rfl off off' inb inb' hoff hinj d (first_cell 256 rows256Casts d) (second_cell 256 rows256Casts d) x p r
  have hc := hcov ⟨r / 256, by omega⟩
  have hu : upAt (8 + q) r = upAt q (r / 256) := upAt_div 8 q r
  rw [hu]
  refine ⟨fun h => ?_, fun h => hcell.2 fun k hk => ?_⟩
  · obtain ⟨k, hk⟩ := hc.mpr h
    exact hcell.1 k hk
  · have h2 := hc.mp ⟨k, hk⟩
    rw [h] at h2
    cases d <;> exact absurd h2 (by decide)

/-- The merges of the blocks of 128 rows are a level. -/
theorem level128_acts : ActsAll level128 (level 7) := by
  have h := Half.both (by decide) (rowsIn_half k0_off2 k0_off2_inb (by decide +kernel) (by decide +kernel) 0 true (by decide +kernel) mergeAsc_acts)
    (rowsIn_half k0_off3 k0_off3_inb (by decide +kernel) (by decide +kernel) 0 false (by decide +kernel) mergeDesc_acts)
  exact h

/-- The level that makes runs of 256 rows, loop by loop. -/
theorem level_eight (u : ℕ → EReal) : level 8 u = cxs [6, 5, 4, 3, 2, 1, 0] (upAt 8) (cxs [7] (upAt 8) u) := by
  rw [← cxs_append]; rfl

/-- The level that makes runs of 512 rows, loop by loop. -/
theorem level_nine (u : ℕ → EReal) : level 9 u = cxs [6, 5, 4, 3, 2, 1, 0] (upAt 9) (cxs [7] (upAt 9) (cxs [8] (upAt 9) u)) := by
  rw [← cxs_append, ← cxs_append]; rfl

/-- The level that makes runs of 1024 rows, loop by loop. -/
theorem level_ten (u : ℕ → EReal) : level 10 u = cxs [6, 5, 4, 3, 2, 1, 0] (upAt 10) (cxs [7] (upAt 10) (cxs [8] (upAt 10) (cxs [9] (upAt 10) u))) := by
  rw [← cxs_append, ← cxs_append, ← cxs_append]; rfl

/-- The level that makes runs of 2048 rows, loop by loop. -/
theorem level_eleven (u : ℕ → EReal) :
    level 11 u = cxs [6, 5, 4, 3, 2, 1, 0] (upAt 11) (cxs [7] (upAt 11) (cxs [8] (upAt 11) (cxs [9] (upAt 11) (cxs [10] (upAt 11) u)))) := by
  rw [← cxs_append, ← cxs_append, ← cxs_append, ← cxs_append]; rfl

/-- The merges of the blocks of 256 rows are a level. -/
theorem level256_acts : ActsAll level256 (level 8) := by
  have h1 := Half.both (by decide)
    (rows128_half k0_off4 k0_off5 k0_off4_inb k0_off5_inb 0 1 true (by decide +kernel) (by decide +kernel) (by decide +kernel))
    (rows128_half k0_off6 k0_off7 k0_off6_inb k0_off7_inb 0 1 false (by decide +kernel) (by decide +kernel) (by decide +kernel))
  have h2 := Half.both (by decide) (rowsIn_half k0_off8 k0_off8_inb (by decide +kernel) (by decide +kernel) 1 true (by decide +kernel) mergeAsc_acts)
    (rowsIn_half k0_off9 k0_off9_inb (by decide +kernel) (by decide +kernel) 1 false (by decide +kernel) mergeDesc_acts)
  have h := ActsAll.comp (by decide) h2 h1
  intro x p r hr
  rw [level_eight]
  exact h x p r hr

/-- The merges of the blocks of 512 rows are a level. -/
theorem level512_acts : ActsAll (fun x => level512b (level512a x)) (level 9) := by
  have h1 := Half.both (by decide)
    (rows256_half k0_off10 k0_off11 k0_off10_inb k0_off11_inb 0 1 true (by decide +kernel) (by decide +kernel) (by decide +kernel))
    (rows256_half k0_off12 k0_off13 k0_off12_inb k0_off13_inb 0 1 false (by decide +kernel) (by decide +kernel) (by decide +kernel))
  have h2 := Half.both (by decide)
    (rows128_half k0_off14 k0_off15 k0_off14_inb k0_off15_inb 0 2 true (by decide +kernel) (by decide +kernel) (by decide +kernel))
    (rows128_half k0_off16 k0_off17 k0_off16_inb k0_off17_inb 0 2 false (by decide +kernel) (by decide +kernel) (by decide +kernel))
  have h3 := Half.both (by decide) (rowsIn_half k0_off18 k0_off18_inb (by decide +kernel) (by decide +kernel) 2 true (by decide +kernel) mergeAsc_acts)
    (rowsIn_half k0_off19 k0_off19_inb (by decide +kernel) (by decide +kernel) 2 false (by decide +kernel) mergeDesc_acts)
  have h := ActsAll.comp (by decide) h3 (ActsAll.comp (by decide) h2 h1)
  intro x p r hr
  rw [level_nine]
  exact h x p r hr

/-- The merges of the blocks of 1024 rows are a level. -/
theorem level1024_acts : ActsAll (fun x => level1024b (level1024a x)) (level 10) := by
  have h1 := Half.both (by decide)
    (rows256_half k0_off20 k0_off21 k0_off20_inb k0_off21_inb 1 2 true (by decide +kernel) (by decide +kernel) (by decide +kernel))
    (rows256_half k0_off22 k0_off23 k0_off22_inb k0_off23_inb 1 2 false (by decide +kernel) (by decide +kernel) (by decide +kernel))
  have h2 := Half.both (by decide)
    (rows256_half k0_off24 k0_off25 k0_off24_inb k0_off25_inb 0 2 true (by decide +kernel) (by decide +kernel) (by decide +kernel))
    (rows256_half k0_off26 k0_off27 k0_off26_inb k0_off27_inb 0 2 false (by decide +kernel) (by decide +kernel) (by decide +kernel))
  have h3 := Half.both (by decide)
    (rows128_half k0_off28 k0_off29 k0_off28_inb k0_off29_inb 0 3 true (by decide +kernel) (by decide +kernel) (by decide +kernel))
    (rows128_half k0_off30 k0_off31 k0_off30_inb k0_off31_inb 0 3 false (by decide +kernel) (by decide +kernel) (by decide +kernel))
  have h4 := Half.both (by decide) (rowsIn_half k0_off32 k0_off32_inb (by decide +kernel) (by decide +kernel) 3 true (by decide +kernel) mergeAsc_acts)
    (rowsIn_half k0_off33 k0_off33_inb (by decide +kernel) (by decide +kernel) 3 false (by decide +kernel) mergeDesc_acts)
  have h := ActsAll.comp (by decide) h4 (ActsAll.comp (by decide) h3 (ActsAll.comp (by decide) h2 h1))
  intro x p r hr
  rw [level_ten]
  exact h x p r hr

/-- The merges of the blocks of 2048 rows are a level. -/
theorem level2048_acts : ActsAll level2048 (level 11) := by
  have h1 := Half.all (by decide)
    (rows256_half k0_off34 k0_off35 k0_off34_inb k0_off35_inb 2 3 true (by decide +kernel) (by decide +kernel) (by decide +kernel))
  have h2 := Half.all (by decide)
    (rows256_half k0_off36 k0_off37 k0_off36_inb k0_off37_inb 1 3 true (by decide +kernel) (by decide +kernel) (by decide +kernel))
  have h3 := Half.all (by decide)
    (rows256_half k0_off38 k0_off39 k0_off38_inb k0_off39_inb 0 3 true (by decide +kernel) (by decide +kernel) (by decide +kernel))
  have h4 := Half.all (by decide)
    (rows128_half k0_off40 k0_off41 k0_off40_inb k0_off41_inb 0 4 true (by decide +kernel) (by decide +kernel) (by decide +kernel))
  have h5 := Half.all (by decide) (rowsIn_half k0_off42 k0_off42_inb (by decide +kernel) (by decide +kernel) 4 true (by decide +kernel) mergeAsc_acts)
  have h := ActsAll.comp (by decide) h5 (ActsAll.comp (by decide) h4 (ActsAll.comp (by decide) h3 (ActsAll.comp (by decide) h2 h1)))
  intro x p r hr
  rw [level_eleven]
  exact h x p r hr

/-- The distances of a level within the array. -/
theorem level_lt {l : ℕ} (hl : l ≤ 11) : ∀ s ∈ (List.range l).reverse, s < 11 := fun s hs => by
  have := List.mem_range.mp (List.mem_reverse.mp hs); omega

/-- The kernel's sort is the eleven levels of the network on every column. -/
theorem sortVals_acts : ActsAll sortVals (levels 11) := by
  have h7 := ActsAll.comp (level_lt (l := 7) (by decide)) level128_acts level64_acts
  have h8 := ActsAll.comp (level_lt (l := 8) (by decide)) level256_acts h7
  have h9 := ActsAll.comp (level_lt (l := 9) (by decide)) level512_acts h8
  have h10 := ActsAll.comp (level_lt (l := 10) (by decide)) level1024_acts h9
  have h11 := ActsAll.comp (level_lt (l := 11) (by decide)) level2048_acts h10
  intro x p r hr
  unfold sortVals
  rw [levels_succ, levels_succ, levels_succ, levels_succ, levels_succ]
  exact h11 x p r hr

/-- The kernel's sort leaves every column ascending. -/
theorem sortVals_monotone (x : Rows) (p : Fin 256) : Monotone fun r : Fin 2048 => entry (sortVals x) p r.val := by
  intro a b hab
  have h := levels_monotone 11 (entry x p) (show (a : Fin (2 ^ 11)) ≤ b from hab)
  simp only at h ⊢
  rw [sortVals_acts x p a.val a.isLt, sortVals_acts x p b.val b.isLt]
  exact h

/-- The kernel's sort rearranges every column. -/
theorem sortVals_perm (x : Rows) (p : Fin 256) : ∃ σ : Equiv.Perm (Fin 2048), ∀ r, entry (sortVals x) p r.val = entry x p (σ r).val := by
  obtain ⟨σ, h⟩ := levels_perm 11 (entry x p)
  exact ⟨σ, fun r => (sortVals_acts x p r.val r.isLt).trans (h r)⟩

end Cert.KernelIdeal.Gen
-- ==== Proof.SortedColumn.lean ====
/-
  The stable sort of a column by "strictly less", the column given as a function on positions. The sort names, for every
  place, the position whose value stands there. The values so placed ascend, every position is used exactly once, an
  ascending column is left as it is, and any other ascending rearrangement of the column is the same column.
-/
module

public import Idealize.ShloMosaic.PureOps
public import Idealize.ShloMosaic.Lib.SortFacts
public import Idealize.ShloMosaic.Lib.SortNet.HostSort

@[expose] public section

namespace Cert.SortedColumn
open Idealize.ShloMosaic

variable {n : ℕ} {α : Type} [LinearOrder α]

/-- The sort by "strictly less" of the column `f`: the position whose value goes to each place. -/
abbrev source (f : Fin n → α) : Fin n → Fin n := sortedFrom fun a b => decide (f a < f b)

/-- The sorted column ascends. -/
theorem source_monotone (f : Fin n → α) : Monotone (f ∘ source f) := by
  intro i j hij
  rcases hij.eq_or_lt with rfl | hlt
  · exact le_rfl
  · have h := sortedFrom_noInversion (fun a b => decide (f a < f b)) (fun a b => decide (f a < f b))
      (fun a b hab => by simpa using le_of_lt (of_decide_eq_true hab)) (fun _ _ h => h)
      (fun a b c hab hbc => by
        simp only [decide_eq_false_iff_not, not_lt] at hab hbc ⊢
        exact hbc.trans hab) i j hlt
    simpa using h

/-- The sort uses every position exactly once. -/
noncomputable def sourcePerm (f : Fin n → α) : Equiv.Perm (Fin n) :=
  Equiv.ofBijective (source f) ⟨sortedFrom_injective _, sortedFrom_surjective _⟩

/-- Any ascending rearrangement of a column is its sorted column. -/
theorem eq_of_monotone (f g : Fin n → α) (σ : Equiv.Perm (Fin n)) (hg : ∀ r, g r = f (σ r)) (hm : Monotone g) (r : Fin n) :
    g r = f (source f r) := by
  have hσ : Monotone (f ∘ σ) := by
    intro i j hij
    simp only [Function.comp_apply, ← hg]
    exact hm hij
  have hτ : Monotone (f ∘ sourcePerm f) := source_monotone f
  rw [hg]
  have hp : (List.ofFn (f ∘ σ)).Perm (List.ofFn (f ∘ sourcePerm f)) :=
    (Equiv.Perm.ofFn_comp_perm σ f).trans (Equiv.Perm.ofFn_comp_perm (sourcePerm f) f).symm
  have he := hp.eq_of_pairwise (le := fun a b => a ≤ b) (fun _ _ _ _ => le_antisymm)
    (List.pairwise_ofFn.mpr fun _ _ hab => hσ hab.le) (List.pairwise_ofFn.mpr fun _ _ hab => hτ hab.le)
  exact congrFun (List.ofFn_injective he) r

/-- A list along which the column ascends is left as it is by the sort. -/
theorem stableSort_of_pairwise (f : Fin n → α) (l : List (Fin n)) (hl : l.Pairwise fun a b => f a ≤ f b) :
    stableSort (fun a b => decide (f a < f b)) l = l := by
  induction l with
  | nil => rfl
  | cons a l ih =>
    rw [List.pairwise_cons] at hl
    unfold stableSort
    rw [ih hl.2]
    cases l with
    | nil => rfl
    | cons b l =>
      unfold insertBefore
      rw [if_neg]
      simpa using hl.1 b List.mem_cons_self

/-- An ascending column keeps its order: the place and the position agree. -/
theorem source_of_monotone (f : Fin n → α) (hf : Monotone f) (r : Fin n) : source f r = r := by
  have h : sortPositions n (fun a b => decide (f a < f b)) = List.finRange n :=
    stableSort_of_pairwise f _ ((List.pairwise_le_finRange n).imp fun hab => hf hab)
  unfold source sortedFrom
  rw [List.get_of_eq h]
  simp

end Cert.SortedColumn
-- ==== Proof.PayloadVals.lean ====
/-
  What the kernel's body computes around its sort, the floats read as extended reals: the projections it stores into the
  scratch array, and the row it leaves in the output block.
-/
module

public import proofs.«01_k».proof.Proof.SortValues
public import proofs.«01_k».proof.Proof.SortedColumn
public import Idealize.ShloMosaic.Lib.Pointwise
public import Idealize.ShloMosaic.Lib.Pipeline.Value

@[expose] public section

set_option maxRecDepth 16384

noncomputable section

namespace Cert.KernelIdeal.Gen

open Idealize.ShloMosaic
open Cert.Stages Cert.SortedColumn

/-- The row numbered `p` of the weights, scaled by the inverse root of its sum of squares. -/
def scaledRow (wv : FVec Ideal S256x256 .f32) (p d : Fin 256) : EReal :=
  wv (ix2 p d) * Ideal.rsqrt (∑ k : Fin 256, wv (ix2 p k) * wv (ix2 p k))

/-- The row sums the kernel scales by. -/
theorem rowSums_apply (wv : FVec Ideal S256x256 .f32) (p : Fin 256) :
    multiReduction (F := Ideal) .add [1] S256 (mulf wv wv) 0x00000000#32 reduces_S256x256_S256 (.inl rfl) rfl (ix1 p)
      = ∑ k : Fin 256, wv (ix2 p k) * wv (ix2 p k) := by
  show Ideal.reduceAdd reduces_S256x256_S256 (mulf wv wv) (ix1 p) = _
  rw [Ideal.reduceAdd_r2_a1]
  rfl

/-- The projections stored into the scratch array: a sample's inner product with a scaled row. -/
theorem k0_pay153_apply (wv : FVec Ideal S256x256 .f32) (x : FVec Ideal S1x2048x256 .f32) (r : Fin 2048) (p : Fin 256) :
    k0_pay153 (F := Ideal) wv x (ix2 r p) = ∑ d : Fin 256, x (ix3 0 r d) * scaledRow wv p d := by
  unfold k0_pay153
  dsimp only
  rw [shapeCast_apply _ _ (ix2 r p) (ix2 r p) rfl]
  simp only [matmul]
  rw [Ideal.matmul_constant_zero_apply, DotDims.sum_contr₁ _ (a := ⟨1, by decide⟩) (K := 256) rfl rfl]
  refine Finset.sum_congr rfl fun d _ => ?_
  have hl : dot_S2048x256_S256x256_S2048x256_1_1_0_0_n_n.lhsIdx (ix2 r p) (DotDims.contrIdx₁ _ (a := ⟨1, by decide⟩) (K := 256) rfl rfl d)
      = (ix2 r d : S2048x256.Idx) := by
    funext a
    match a with
    | ⟨0, _⟩ => rfl
    | ⟨1, _⟩ => rfl
  have hr : dot_S2048x256_S256x256_S2048x256_1_1_0_0_n_n.rhsIdx (ix2 r p) (DotDims.contrIdx₁ _ (a := ⟨1, by decide⟩) (K := 256) rfl rfl d)
      = (ix2 p d : S256x256.Idx) := by
    funext a
    match a with
    | ⟨0, _⟩ => rfl
    | ⟨1, _⟩ => rfl
  refine congrArg₂ (· * ·) ((congrArg _ hl).trans ?_) ((congrArg _ hr).trans ?_)
  · exact shapeCast_apply _ _ _ (ix3 0 r d) (by simp only [Shape.rowMajor_val_two, Shape.rowMajor_val_three]; simp)
  · unfold scaledRow
    refine congrArg (wv (ix2 p d) * ·) ?_
    rw [broadcastTo_apply _ _ (ix2 p d) (ix2 p 0) (fun a => by match a with | ⟨0, _⟩ => rfl | ⟨1, _⟩ => rfl)]
    refine congrArg Ideal.rsqrt ?_
    rw [shapeCast_apply _ _ (ix2 p 0) (ix1 p) (by simp only [Shape.rowMajor_val_one, Shape.rowMajor_val_two]; simp), rowSums_apply]

/-- The row left in the output block: the weighted sum down each column. -/
theorem k0_pay185_apply (wt rp s : FVec Ideal S2048x256 .f32) (p : Fin 256) :
    k0_pay185 (F := Ideal) wt rp s (ix3 0 0 p) = ∑ r : Fin 2048, wt (ix2 r p) * (rp (ix2 r p) - s (ix2 r p)) := by
  unfold k0_pay185
  dsimp only
  rw [shapeCast_apply _ _ (ix3 0 0 p) (ix1 p) (by simp only [Shape.rowMajor_val_one, Shape.rowMajor_val_three]; simp)]
  show Ideal.reduceAdd reduces_S2048x256_S256 (mulf (shapeCast S2048x256 wt shapeCasts_S2048x256_S2048x256) (subf rp s)) (ix1 p) = _
  rw [Ideal.reduceAdd_r2_a0]
  refine Finset.sum_congr rfl fun r _ => ?_
  refine congrArg (· * (rp (ix2 r p) - s (ix2 r p))) ?_
  exact shapeCast_apply _ _ (ix2 r p) (ix2 r p) rfl

/-- The entry of a column in a row below the end. -/
theorem entry_fin (x : Rows) (p : Fin 256) (r : Fin 2048) : entry x p r.val = x (ix2 r p) := by
  unfold entry
  rw [cell_of_lt x p r.isLt]
  refine congrArg x ?_
  funext a
  match a with
  | ⟨0, _⟩ => rfl
  | ⟨1, _⟩ => rfl

/-- The kernel's sort puts every column in ascending order. -/
theorem sortVals_apply (x : Rows) (r : Fin 2048) (p : Fin 256) :
    sortVals x (ix2 r p) = x (ix2 (source (fun k : Fin 2048 => x (ix2 k p)) r) p) := by
  obtain ⟨σ, hσ⟩ := sortVals_perm x p
  have hm := sortVals_monotone x p
  simp only [entry_fin] at hσ hm
  exact eq_of_monotone (fun k : Fin 2048 => x (ix2 k p)) (fun k : Fin 2048 => sortVals x (ix2 k p)) σ hσ hm r

/-- The output block of a grid point at a column: the weighted sum of the reference points less the sorted projections. -/
theorem bodyVals_apply (wv : FVec Ideal S256x256 .f32) (x : FVec Ideal S1x2048x256 .f32) (rp wt : FVec Ideal S2048x256 .f32)
    (p : Fin 256) : bodyVals (F := Ideal) wv x rp wt (ix3 0 0 p)
      = ∑ r : Fin 2048, wt (ix2 r p) * (rp (ix2 r p)
          - ∑ d : Fin 256, x (ix3 0 (source (fun k : Fin 2048 => ∑ d : Fin 256, x (ix3 0 k d) * scaledRow wv p d) r) d) * scaledRow wv p d) := by
  unfold bodyVals
  rw [k0_pay185_apply]
  refine Finset.sum_congr rfl fun r _ => ?_
  rw [sortVals_apply]
  simp only [k0_pay153_apply]

end Cert.KernelIdeal.Gen
-- ==== Proof.OutputArray.lean ====
/-
  What the arrays hold: the blocks the body reads, entry by entry of the launched arguments, and the output array after
  the last write-back, entry by entry of the arguments.
-/
module

public import proofs.«01_k».proof.Proof.IdealLaunch
public import proofs.«01_k».proof.Proof.PayloadVals
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic
open Idealize.ShloMosaic.StableHlo
open Idealize.ShloMosaic.Pipeline (Dat Cfg Window)

variable (m : (ℓ : Loc nD τ sig) → Buf (Elt Ideal) ℓ) (ρ : Dev nD → PrngReg)

/-- The batch block and the output block of a point are the point's own; -/
theorem index0 : ∀ t : Fin grid0.N, win0_0.index t = ![t.val, 0, 0] := by decide +kernel
theorem index4 : ∀ t : Fin grid0.N, win0_4.index t = ![t.val, 0, 0] := by decide +kernel
/-- the other operands are one block each. -/
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel

/-- The launched arguments and the call's transposed weights, as arrays of their shapes. -/
abbrev batchArg (c : Dev nD) : FVec Ideal S16x2048x256 .f32 := m ((c : Thread nD τ).loc main_arg0)
abbrev pointsArg (c : Dev nD) : FVec Ideal S2048x256 .f32 := m ((c : Thread nD τ).loc main_arg1)
abbrev rowsArg (c : Dev nD) : FVec Ideal S256x256 .f32 := m ((c : Thread nD τ).loc main_arg2)
abbrev weightArg (c : Dev nD) : FVec Ideal S256x2048 .f32 := m ((c : Thread nD τ).loc main_arg3)

/-- The call's fourth operand is the transposed weights. -/
theorem V_main_call0_v0 (c : Dev nD) (r : Fin 2048) (p : Fin 256) :
    (V m c main_call0_v0 : FVec Ideal S2048x256 .f32) (ix2 r p) = weightArg m c (ix2 p r) := by
  have h : (V m c main_call0_v0 : FVec Ideal S2048x256 .f32) =
      transpose S2048x256 [1, 0] (weightArg m c) transposes_S256x2048_S2048x256_1_0 := by
    unfold V V0
    simp only [hostOps0, List.flatten_cons, List.flatten_nil, List.append_nil, TRef.unary, TRef.toBuf, TRef.ofBuf, cast_eq]
    after_results_simp
  rw [h]
  exact transpose_apply _ _ _ _ _ (fun a => by match a with | ⟨0, _⟩ => rfl | ⟨1, _⟩ => rfl)

/-- The batch block of a point: that batch's points. -/
theorem block0 (c : Dev nD) (t : Fin cfg0.N) (b : Fin 16) (hb : b.val = t.val) (r : Fin 2048) (d : Fin 256) :
    (iblk m c 0 t : FVec Ideal S1x2048x256 .f32) (ix3 0 r d) = batchArg m c (ix3 b r d) := by
  show (V m c main_arg0) (((cfg0.win 0).blk t).view.emb (ix3 0 r d)) = _
  rw [V_main_arg0]
  refine congrArg (batchArg m c) (funext fun a => Fin.ext ?_)
  match a with
  | ⟨0, _⟩ => blk_simp [index0]; simp [ix3, hb]
  | ⟨1, _⟩ => blk_simp [index0]
  | ⟨2, _⟩ => blk_simp [index0]

/-- The block of reference points is the array. -/
theorem block1 (c : Dev nD) (t : Fin cfg0.N) (r : Fin 2048) (p : Fin 256) :
    (iblk m c 1 t : FVec Ideal S2048x256 .f32) (ix2 r p) = pointsArg m c (ix2 r p) := by
  show (V m c main_arg1) (((cfg0.win 1).blk t).view.emb (ix2 r p)) = _
  rw [V_main_arg1]
  refine congrArg (pointsArg m c) (funext fun a => Fin.ext ?_)
  match a with
  | ⟨0, _⟩ => blk_simp [index1]
  | ⟨1, _⟩ => blk_simp [index1]

/-- The block of projection rows is the array. -/
theorem block2 (c : Dev nD) (t : Fin cfg0.N) (p d : Fin 256) :
    (iblk m c 2 t : FVec Ideal S256x256 .f32) (ix2 p d) = rowsArg m c (ix2 p d) := by
  show (V m c main_arg2) (((cfg0.win 2).blk t).view.emb (ix2 p d)) = _
  rw [V_main_arg2]
  refine congrArg (rowsArg m c) (funext fun a => Fin.ext ?_)
  match a with
  | ⟨0, _⟩ => blk_simp [index2]
  | ⟨1, _⟩ => blk_simp [index2]

/-- The block of weights is the array, transposed. -/
theorem block3 (c : Dev nD) (t : Fin cfg0.N) (r : Fin 2048) (p : Fin 256) :
    (iblk m c 3 t : FVec Ideal S2048x256 .f32) (ix2 r p) = weightArg m c (ix2 p r) := by
  rw [← V_main_call0_v0]
  show (V m c main_call0_v0) (((cfg0.win 3).blk t).view.emb (ix2 r p)) = _
  refine congrArg (V m c main_call0_v0 : FVec Ideal S2048x256 .f32) (funext fun a => Fin.ext ?_)
  match a with
  | ⟨0, _⟩ => blk_simp [index3]
  | ⟨1, _⟩ => blk_simp [index3]

/-- What the output array holds at the end: each batch's row is the output block of that batch's point. -/
def outArray (c : Dev nD) : FVec Ideal S16x1x256 .f32 :=
  fun j => outBlock m c ⟨(j 0).val, (j 0).isLt⟩ (ix3 0 0 (j 2))

/-- The write-backs leave the output array at `outArray`. -/
theorem arrAt_out (c : Dev nD) : (dats m 0 c).arrAt 4 cfg0.N = outArray m c := by
  refine (dats m 0 c).arrAt_eq_of_covers 4 _ (by decide +kernel) fun t hf y => ?_
  blk_simp
  rw [after4]
  have h0 : (((cfg0.win 4).blk t).view.emb y 0).val = t.val := by
    blk_simp [index4]
  have h2 : (((cfg0.win 4).blk t).view.emb y 2).val = (y 2).val := by
    blk_simp [index4]
  show outBlock m c t y = outBlock m c ⟨(((cfg0.win 4).blk t).view.emb y 0).val, _⟩
    (ix3 0 0 (((cfg0.win 4).blk t).view.emb y 2))
  refine congr (congrArg (outBlock m c) (Fin.ext h0.symm)) (funext fun a => Fin.ext ?_)
  match a with
  | ⟨0, _⟩ => exact Nat.lt_one_iff.mp (y 0).isLt
  | ⟨1, _⟩ => exact Nat.lt_one_iff.mp (y 1).isLt
  | ⟨2, _⟩ => exact h2.symm

/-- The result of @main: the output array, its unit axis dropped. -/
theorem result_main (c : Dev nD) (b : Fin 16) (p : Fin 256) :
    (Pipeline.afterTail₀ cfgs (dats m) 0 (V0 m) [hostOps1] c main_v0 : FVec Ideal S16x256 .f32) (ix2 b p)
      = outBlock m c ⟨b.val, b.isLt⟩ (ix3 0 0 p) := by
  have h : (Pipeline.afterTail₀ cfgs (dats m) 0 (V0 m) [hostOps1] c main_v0 : FVec Ideal S16x256 .f32)
      = shapeCast S16x256 (outArray m c) shapeCasts_S16x1x256_S16x256 := by
    unfold Pipeline.afterTail₀
    simp only [hostOps1, List.flatten_cons, List.flatten_nil, List.append_nil, TRef.reshape, TRef.toBuf, TRef.ofBuf, cast_eq]
    after_results_simp
    exact congrArg (fun u : FVec Ideal S16x1x256 .f32 => shapeCast S16x256 u shapeCasts_S16x1x256_S16x256)
      ((Pipeline.withArrays_arr spec0 (by decide) c _ (fun w => (dats m 0 c).arrAt w cfg0.N) 4).trans (arrAt_out m c))
  rw [h]
  refine (shapeCast_apply _ _ _ (ix3 b 0 p) (by simp only [Shape.rowMajor_val_two, Shape.rowMajor_val_three]; simp [ix2, ix3])).trans ?_
  rfl

end Cert.KernelIdeal.Gen

end
-- ==== Proof.ReferenceSort.lean ====
/-
  The reference's sort, the floats read as extended reals: both its comparators ask "strictly less", so its sort of
  an array along the rows is the stable sort of every column, and its second sort carries the row numbers along.
-/
module

public import proofs.«01_k».proof.Proof.Gen.ReferenceIdeal
public import proofs.«01_k».proof.Proof.SortedColumn
public import Idealize.ShloMosaic.Lib.Pointwise
public import Idealize.ShloMosaic.Lib.IdealHost
public import Idealize.ShloMosaic.Lib.Pipeline.Value

@[expose] public section

set_option maxRecDepth 16384

noncomputable section

namespace Cert.ReferenceIdeal.Value

open Cert.ReferenceIdeal Cert.ReferenceIdeal.Gen Idealize.ShloMosaic
open Cert.SortedColumn

/-- The projections, and whatever else has a value per batch, row and projection. -/
abbrev Cube : Type := FVec Ideal S16x2048x256 .f32

/-- The column of batch `b` and projection `p`. -/
abbrev column (x : Cube) (b : Fin 16) (p : Fin 256) : Fin 2048 → EReal := fun r => x (ix3 b r p)

/-- The value a comparator makes of its argument, zero for either zero and one pattern for every unordered value, is the
argument itself. -/
theorem canonical (n x : EReal) :
    Scalar.select (Ideal.cmp .une x x) n (Scalar.select (Ideal.cmp .oeq x (FloatOps.ofBits (F := Ideal) .f32 0x00000000#32))
      (FloatOps.ofBits (F := Ideal) .f32 0x00000000#32) x) = x := by
  have h0 : (FloatOps.ofBits (F := Ideal) .f32 0x00000000#32 : EReal) = 0 := Ideal.ofBits_zero_f32
  rw [h0]
  by_cases hx : x = 0 <;> simp [Scalar.select, Ideal.cmp, hx]

/-- "Less" as a bit is one exactly where the first is strictly less. -/
theorem less_bit (l r : EReal) : (Ideal.cmp .olt l r == 1#1) = decide (l < r) := by
  by_cases h : l < r <;> simp [Ideal.cmp, h]

/-- The comparator of the sort of values asks whether the first is strictly less. -/
theorem comparator_less (l r : EReal) : (comparator_f32_d1 (F := Ideal) l r == 1#1) = decide (l < r) := by
  unfold comparator_f32_d1
  simp only [Ideal.cmpf_def, Ideal.cmpfTotal_def, canonical, CmpDirection.ordered, less_bit]

/-- The comparator of the sort of pairs asks whether the first pair's value is strictly less. -/
theorem comparator_pair_less (l r : EReal × BitVec 32) : (comparator_f32_i32_d1 (F := Ideal) l r == 1#1) = decide (l.1 < r.1) := by
  unfold comparator_f32_i32_d1
  simp only [Ideal.cmpf_def, Ideal.cmpfTotal_def, canonical, CmpDirection.ordered, less_bit]

/-- The axis the rows are counted on. -/
abbrev rowAxis : Fin S16x2048x256.rank := ⟨1, by decide⟩

/-- Moving along the rows from an entry reaches the entry of that row in the same column. -/
theorem along_rows (b : Fin 16) (r k : Fin 2048) (p : Fin 256) :
    Shape.Idx.along (s := S16x2048x256) (ix3 b r p) rowAxis k = ix3 b k p := by
  funext a
  match a with
  | ⟨0, _⟩ => rfl
  | ⟨1, _⟩ => rfl
  | ⟨2, _⟩ => rfl

/-- The relation by which the sort compares two rows of a column. -/
theorem compares (x : Cube) (b : Fin 16) (r : Fin 2048) (p : Fin 256) :
    (fun k k' : Fin 2048 => comparator_f32_d1 (F := Ideal) (x (Shape.Idx.along (s := S16x2048x256) (ix3 b r p) rowAxis k))
      (x (Shape.Idx.along (s := S16x2048x256) (ix3 b r p) rowAxis k')) == 1#1)
      = fun k k' => decide (column x b p k < column x b p k') := by
  funext k k'
  rw [comparator_less, along_rows, along_rows]

/-- The relation by which the sort of pairs compares two rows of a column. -/
theorem compares_pairs (x : Cube) (y : IVec S16x2048x256 32) (b : Fin 16) (r : Fin 2048) (p : Fin 256) :
    (fun k k' : Fin 2048 => comparator_f32_i32_d1 (F := Ideal)
      (x (Shape.Idx.along (s := S16x2048x256) (ix3 b r p) rowAxis k), y (Shape.Idx.along (s := S16x2048x256) (ix3 b r p) rowAxis k))
      (x (Shape.Idx.along (s := S16x2048x256) (ix3 b r p) rowAxis k'), y (Shape.Idx.along (s := S16x2048x256) (ix3 b r p) rowAxis k'))
        == 1#1)
      = fun k k' => decide (column x b p k < column x b p k') := by
  funext k k'
  rw [comparator_pair_less, along_rows, along_rows]

/-- The sort along the rows is the stable sort of every column. -/
theorem sort_apply (x : Cube) (b : Fin 16) (r : Fin 2048) (p : Fin 256) :
    Host.sort S16x2048x256 1 comparator_f32_d1 x (ix3 b r p) = x (ix3 b (source (column x b p) r) p) := by
  unfold Host.sort
  rw [dif_pos (show 1 < S16x2048x256.rank by decide)]
  refine (congrArg x (congrArg (Shape.Idx.along (s := S16x2048x256) (ix3 b r p) rowAxis)
    (congrFun (congrArg (sortedFrom (n := 2048)) (compares x b r p)) r))).trans ?_
  rw [along_rows]

/-- The row numbers carried along by the sort of a column are the positions its values come from. -/
theorem sort2_apply (x : Cube) (b : Fin 16) (r : Fin 2048) (p : Fin 256) :
    (Host.sort2 S16x2048x256 1 comparator_f32_i32_d1 x (iotaInDim S16x2048x256 32 1)).2 (ix3 b r p)
      = BitVec.ofNat 32 (source (column x b p) r).val := by
  unfold Host.sort2
  rw [dif_pos (show 1 < S16x2048x256.rank by decide)]
  refine (congrArg (iotaInDim S16x2048x256 32 1) (congrArg (Shape.Idx.along (s := S16x2048x256) (ix3 b r p) rowAxis)
    (congrFun (congrArg (sortedFrom (n := 2048)) (compares_pairs x (iotaInDim S16x2048x256 32 1) b r p)) r))).trans ?_
  rw [along_rows]
  rfl

/-- The gather reads, for every entry, the entry of the row that its index names in the same column. -/
theorem gather_apply (x : Cube) (idx : IVec S16x2048x256x1 32) (b : Fin 16) (r : Fin 2048) (p : Fin 256) :
    Host.gather gather_S16x2048x256_S16x2048x256x1_S16x2048x256_n_1_02_02_1_3_111 x idx (ix3 b r p)
      = x (ix3 b ⟨min (idx (ix4 b r p 0)).toInt.toNat 2047, by omega⟩ p) := by
  unfold Host.gather
  refine congrArg x ?_
  funext a
  match a with
  | ⟨0, _⟩ =>
    refine Fin.ext ?_
    unfold GatherDims.operandIdx
    dsimp only
    rw [GatherDims.start_batching _ _ _ _ (by decide +revert), GatherDims.offCoord_eq_zero _ _ _ (by decide +revert), Nat.zero_add, Nat.add_zero]
    unfold GatherDims.batchCoord
    rw [dif_pos (by decide +revert)]
    rfl
  | ⟨1, _⟩ =>
    refine Fin.ext ?_
    unfold GatherDims.operandIdx
    dsimp only
    rw [GatherDims.batchCoord_eq_zero _ _ _ (by decide +revert), GatherDims.offCoord_eq_zero _ _ _ (by decide +revert), Nat.add_zero]
    unfold GatherDims.start
    rw [dif_pos (by decide +revert)]
    refine congrArg (fun i => min (idx i).toInt.toNat 2047) ?_
    funext a
    match a with
    | ⟨0, _⟩ => rfl
    | ⟨1, _⟩ => rfl
    | ⟨2, _⟩ => rfl
    | ⟨3, _⟩ => rfl
  | ⟨2, _⟩ =>
    refine Fin.ext ?_
    unfold GatherDims.operandIdx
    dsimp only
    rw [GatherDims.start_batching _ _ _ _ (by decide +revert), GatherDims.offCoord_eq_zero _ _ _ (by decide +revert), Nat.zero_add, Nat.add_zero]
    unfold GatherDims.batchCoord
    rw [dif_pos (by decide +revert)]
    rfl

end Cert.ReferenceIdeal.Value
-- ==== Proof.ReferenceVals.lean ====
/-
  What the reference computes, the floats read as extended reals: its result as its stages one after another, and every
  stage at an entry. Where every column of the reference points ascends, the order it sorts them into is the order they
  stand in, so the sorted projections are taken as they are and the result is a weighted sum of differences.
-/
module

public import proofs.«01_k».proof.Proof.ReferenceSort
public import proofs.«01_k».proof.Proof.Gen.ReferenceIdeal.Run
public import Idealize.ShloMosaic.Lib.ReduceAll
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe
open Cert.SortedColumn

/-- The projection rows divided by their norms. -/
def unitRows (wv : FVec Ideal S256x256 .f32) : FVec Ideal S256x256 .f32 :=
  Host.divf wv (broadcastInDim S256x256 ![0, 1] bcast_S256x1_S256x256_0_1 (Host.sqrt (broadcastInDim S256x1 ![0] bcast_S256_S256x1_0
    (Host.reduceAdd (mulf wv wv) (constant S_ .f32 0x00000000#32) reducesTo_S256x256_S256_d1 h_S_))))

/-- The samples projected onto the unit rows. -/
def projections (x : Cube) (wv : FVec Ideal S256x256 .f32) : Cube :=
  Host.dotGeneral dot_S16x2048x256_S256x256_S16x2048x256_2_1_01_0_n_n none x (unitRows wv)

/-- The reference points, the same for every batch. -/
def repeated (rp : FVec Ideal S2048x256 .f32) : Cube :=
  broadcastInDim S16x2048x256 ![0, 1, 2] bcast_S1x2048x256_S16x2048x256_0_1_2
    (broadcastInDim S1x2048x256 ![1, 2] bcast_S2048x256_S1x2048x256_1_2 rp)

/-- The row numbers in the order that sorts the reference points. -/
def order (rp : FVec Ideal S2048x256 .f32) : IVec S16x2048x256 32 :=
  (Host.sort2 S16x2048x256 1 comparator_f32_i32_d1 (repeated rp) (iotaInDim S16x2048x256 32 1)).2

/-- The row numbers with a negative one counted from the end, one per entry. -/
def wrapped (o : IVec S16x2048x256 32) : IVec S16x2048x256x1 32 :=
  shapeCast _ (select (cmpi .slt o (broadcastInDim S16x2048x256 ![] bcast_S_S16x2048x256 (constantI S_ 32 0#32)))
    (addi o (broadcastInDim S16x2048x256 ![] bcast_S_S16x2048x256 (constantI S_ 32 2048#32))) o) shapeCasts_S16x2048x256_S16x2048x256x1

/-- The entries of `s` in the rows that `o` names; a row number out of range gives no number. -/
def taken (s : Cube) (o : IVec S16x2048x256 32) : Cube :=
  select (Host.reduce IntOp.andi (andi
      (cmpi .sge (wrapped o) (broadcastInDim S16x2048x256x1 ![] bcast_S_S16x2048x256x1 (constantI S_ 32 0#32)))
      (cmpi .sle (wrapped o) (broadcastInDim S16x2048x256x1 ![0, 1, 2, 3] bcast_S1x1x1x1_S16x2048x256x1_0_1_2_3
        (broadcastInDim S1x1x1x1 ![3] bcast_S1_S1x1x1x1_3 (constantI S1 32 2047#32)))))
      (constantI S_ 1 1#1) reducesTo_S16x2048x256x1_S16x2048x256_d3 h_S_)
    (Host.gather gather_S16x2048x256_S16x2048x256x1_S16x2048x256_n_1_02_02_1_3_111 s (wrapped o))
    (broadcastInDim S16x2048x256 ![] bcast_S_S16x2048x256 (constant S_ .f32 0x7FC00000#32))

/-- The weighted sum over the rows of the reference points less the entries of `g`. -/
def weighted (rp : FVec Ideal S2048x256 .f32) (wt : FVec Ideal S256x2048 .f32) (g : Cube) : FVec Ideal S16x256 .f32 :=
  Host.reduceAdd (mulf (broadcastInDim S16x256x2048 ![0, 1, 2] bcast_S1x256x2048_S16x256x2048_0_1_2
      (broadcastInDim S1x256x2048 ![1, 2] bcast_S256x2048_S1x256x2048_1_2 wt))
    (transpose S16x256x2048 [0, 2, 1] (subf (repeated rp) g) transposes_S16x2048x256_S16x256x2048_0_2_1))
    (constant S_ .f32 0x00000000#32) reducesTo_S16x256x2048_S16x256_d2 h_S_

/-- The reference's result is its stages one after another. -/
theorem res_eq (m : (ℓ : Loc nD τ sig) → Buf (Elt Ideal) ℓ) (c : Dev nD) :
    res_main_v17 (F := Ideal) m c = weighted (m ((c.tc : Thread nD τ).loc main_arg1)) (m ((c.tc : Thread nD τ).loc main_arg3))
      (taken (Host.sort S16x2048x256 1 comparator_f32_d1
          (projections (m ((c.tc : Thread nD τ).loc main_arg0)) (m ((c.tc : Thread nD τ).loc main_arg2))))
        (order (m ((c.tc : Thread nD τ).loc main_arg1)))) := by
  unfold res_main_v17 weighted taken wrapped order repeated projections unitRows
  rfl

/-- The constant zero holds zero. -/
theorem zero_first : (constant (F := Ideal) S_ .f32 0x00000000#32) (Shape.Idx.first h_S_) = (0 : EReal) := Ideal.ofBits_zero_f32

/-- A projection row's entry divided by the root of the row's sum of squares. -/
theorem unitRows_apply (wv : FVec Ideal S256x256 .f32) (p d : Fin 256) :
    unitRows wv (ix2 p d) = Ideal.div (wv (ix2 p d)) (Ideal.sqrt (∑ k : Fin 256, wv (ix2 p k) * wv (ix2 p k))) := by
  unfold unitRows
  rw [ValueIdx.hostDivf_apply]
  congr 1
  rw [broadcastInDim_apply _ _ _ (ix2 p d) (ix2 p 0) (fun a => by match a with | ⟨0, _⟩ => rfl | ⟨1, _⟩ => rfl)]
  show Ideal.sqrt _ = _
  congr 1
  rw [broadcastInDim_apply _ _ _ (ix2 p 0) (ix1 p) (fun a => by match a with | ⟨0, _⟩ => rfl)]
  rw [ValueIdx.hostReduceAdd_apply, zero_first, Ideal.hostReduceAdd_r2_a1, zero_add]
  rfl

/-- A projection is the inner product of a sample and a unit row. -/
theorem projections_apply (x : Cube) (wv : FVec Ideal S256x256 .f32) (b : Fin 16) (r : Fin 2048) (p : Fin 256) :
    projections x wv (ix3 b r p) = ∑ d : Fin 256, x (ix3 b r d) * unitRows wv (ix2 p d) := by
  unfold projections
  simp only [Host.dotGeneral]
  rw [Ideal.dotGeneral_apply, DotDims.sum_contr₁ _ (a := ⟨2, by decide⟩) (K := 256) rfl rfl]
  refine Finset.sum_congr rfl fun d _ => ?_
  congr 2
  · funext a
    match a with
    | ⟨0, _⟩ => rfl
    | ⟨1, _⟩ => rfl
    | ⟨2, _⟩ => rfl
  · funext a
    match a with
    | ⟨0, _⟩ => rfl
    | ⟨1, _⟩ => rfl

/-- The reference points repeated read the points. -/
theorem repeated_apply (rp : FVec Ideal S2048x256 .f32) (b : Fin 16) (r : Fin 2048) (p : Fin 256) :
    repeated rp (ix3 b r p) = rp (ix2 r p) := by
  unfold repeated
  rw [broadcastInDim_apply _ _ _ (ix3 b r p) (ix3 0 r p) (fun a => by match a with | ⟨0, _⟩ => rfl | ⟨1, _⟩ => rfl | ⟨2, _⟩ => rfl),
    broadcastInDim_apply _ _ _ (ix3 0 r p) (ix2 r p) (fun a => by match a with | ⟨0, _⟩ => rfl | ⟨1, _⟩ => rfl)]

/-- Ascending reference points are sorted by the order they stand in. -/
theorem order_apply (rp : FVec Ideal S2048x256 .f32) (h : ∀ p : Fin 256, Monotone fun r : Fin 2048 => rp (ix2 r p))
    (b : Fin 16) (r : Fin 2048) (p : Fin 256) : order rp (ix3 b r p) = BitVec.ofNat 32 r.val := by
  unfold order
  rw [sort2_apply, source_of_monotone]
  have e : column (repeated rp) b p = fun r => rp (ix2 r p) := funext fun r => repeated_apply rp b r p
  rw [e]
  exact h p

/-- A row number as a signed word is itself. -/
theorem row_word (r : Fin 2048) : (BitVec.ofNat 32 r.val).toInt = (r.val : ℤ) := by
  have hr := r.isLt
  rw [BitVec.toInt_eq_toNat_of_lt (by rw [BitVec.toNat_ofNat]; omega), BitVec.toNat_ofNat]
  omega

section inOrder
variable (o : IVec S16x2048x256 32) (ho : ∀ b r p, o (ix3 b r p) = BitVec.ofNat 32 r.val)
include ho

/-- No row number is negative, so none is wrapped. -/
theorem wrapped_apply (b : Fin 16) (r : Fin 2048) (p : Fin 256) (u : Fin 1) :
    wrapped o (ix4 b r p u) = BitVec.ofNat 32 r.val := by
  unfold wrapped
  rw [shapeCast_apply _ _ (ix4 b r p u) (ix3 b r p) (by
    have hu := u.isLt
    simp only [Shape.rowMajor_val_three, Shape.rowMajor_val_four]
    simp)]
  show Scalar.select (IntOp.cmpi .slt (o (ix3 b r p)) 0#32) _ (o (ix3 b r p)) = _
  rw [ho]
  have h : IntOp.cmpi .slt (BitVec.ofNat 32 r.val) 0#32 = 0#1 := by
    have hn : ¬ ((r.val : ℤ) < 0) := by omega
    simp [IntOp.cmpi, BitVec.slt, row_word, hn]
  rw [h]
  rfl

/-- Every row number is in range, so the entries taken in order are the entries themselves. -/
theorem taken_apply (s : Cube) (b : Fin 16) (r : Fin 2048) (p : Fin 256) : taken s o (ix3 b r p) = s (ix3 b r p) := by
  unfold taken
  have hmask : Host.reduce IntOp.andi (andi
      (cmpi .sge (wrapped o) (broadcastInDim S16x2048x256x1 ![] bcast_S_S16x2048x256x1 (constantI S_ 32 0#32)))
      (cmpi .sle (wrapped o) (broadcastInDim S16x2048x256x1 ![0, 1, 2, 3] bcast_S1x1x1x1_S16x2048x256x1_0_1_2_3
        (broadcastInDim S1x1x1x1 ![3] bcast_S1_S1x1x1x1_3 (constantI S1 32 2047#32)))))
      (constantI S_ 1 1#1) reducesTo_S16x2048x256x1_S16x2048x256_d3 h_S_ (ix3 b r p) = 1#1 := by
    refine Host.reduce_andi_one _ _ _ _ _ rfl fun i => ?_
    obtain ⟨b', r', p', u, hi⟩ : ∃ (b' : Fin 16) (r' : Fin 2048) (p' : Fin 256) (u : Fin 1), i = ix4 b' r' p' u :=
      ⟨i 0, i 1, i 2, i 3, eq_ix4 i⟩
    subst hi
    show IntOp.andi (IntOp.cmpi .sge (wrapped o (ix4 b' r' p' u)) 0#32) (IntOp.cmpi .sle (wrapped o (ix4 b' r' p' u)) 2047#32) = 1#1
    rw [wrapped_apply o ho]
    have hr := r'.isLt
    have h1 : IntOp.cmpi .sge (BitVec.ofNat 32 r'.val) 0#32 = 1#1 := by
      simp [IntOp.cmpi, BitVec.sle, row_word]
    have h2 : IntOp.cmpi .sle (BitVec.ofNat 32 r'.val) 2047#32 = 1#1 := by
      show BitVec.ofBool (decide ((BitVec.ofNat 32 r'.val).toInt ≤ (2047#32 : BitVec 32).toInt)) = 1#1
      rw [row_word, show (2047#32 : BitVec 32).toInt = 2047 by decide, decide_eq_true (by omega)]
      rfl
    rw [h1, h2]
    rfl
  show Scalar.select _ _ _ = _
  rw [hmask]
  show Host.gather _ s (wrapped o) (ix3 b r p) = _
  rw [gather_apply]
  refine congrArg s (congrArg (fun k => ix3 b k p) (Fin.ext ?_))
  show min (wrapped o (ix4 b r p 0)).toInt.toNat 2047 = r.val
  rw [wrapped_apply o ho, row_word]
  have hr := r.isLt
  omega

end inOrder

/-- The weighted sum at an entry. -/
theorem weighted_apply (rp : FVec Ideal S2048x256 .f32) (wt : FVec Ideal S256x2048 .f32) (g : Cube) (b : Fin 16) (p : Fin 256) :
    weighted rp wt g (ix2 b p) = ∑ r : Fin 2048, wt (ix2 p r) * (rp (ix2 r p) - g (ix3 b r p)) := by
  unfold weighted
  rw [ValueIdx.hostReduceAdd_apply, zero_first, Ideal.hostReduceAdd_r3_a2, zero_add]
  refine Finset.sum_congr rfl fun r _ => ?_
  show broadcastInDim _ _ _ _ (ix3 b p r) * transpose _ _ _ _ (ix3 b p r) = _
  congr 1
  · rw [broadcastInDim_apply _ _ _ (ix3 b p r) (ix3 0 p r) (fun a => by match a with | ⟨0, _⟩ => rfl | ⟨1, _⟩ => rfl | ⟨2, _⟩ => rfl),
      broadcastInDim_apply _ _ _ (ix3 0 p r) (ix2 p r) (fun a => by match a with | ⟨0, _⟩ => rfl | ⟨1, _⟩ => rfl)]
  · rw [transpose_apply _ _ _ (ix3 b p r) (ix3 b r p) (fun a => by match a with | ⟨0, _⟩ => rfl | ⟨1, _⟩ => rfl | ⟨2, _⟩ => rfl)]
    show repeated rp (ix3 b r p) - _ = _
    rw [repeated_apply]

/-- The reference's stages together where every column of the reference points ascends. -/
theorem result_apply (x : Cube) (rp : FVec Ideal S2048x256 .f32) (wv : FVec Ideal S256x256 .f32) (wt : FVec Ideal S256x2048 .f32)
    (h : ∀ p : Fin 256, Monotone fun r : Fin 2048 => rp (ix2 r p)) (b : Fin 16) (p : Fin 256) :
    weighted rp wt (taken (Host.sort S16x2048x256 1 comparator_f32_d1 (projections x wv)) (order rp)) (ix2 b p)
      = ∑ r : Fin 2048, wt (ix2 p r) * (rp (ix2 r p)
          - projections x wv (ix3 b (source (column (projections x wv) b p) r) p)) := by
  rw [weighted_apply]
  refine Finset.sum_congr rfl fun r _ => ?_
  rw [taken_apply _ (order_apply rp h), sort_apply]

end Cert.ReferenceIdeal.Value
-- ==== Proof.Precondition.lean ====
/-
  What the precondition says: every column of the reference points ascends, and no projection row has a sum of squares
  that is zero.
-/
module

public import proofs.«01_k».proof.Pre_sorted_points_nonzero_rows
public import Idealize.ShloMosaic.Lib.ReduceAll
public import Idealize.ShloMosaic.Lib.Pointwise
public import Idealize.ShloMosaic.Lib.Pipeline.Value

@[expose] public section

set_option maxRecDepth 16384

noncomputable section

namespace Cert.Pre_sorted_points_nonzero_rows

open Idealize.ShloMosaic

/-- The shape relations the precondition's operations take. -/
theorem facts : Facts where
  slices_S2048x256_S2047x256_0_0 := by decide
  slices_S2048x256_S2047x256_1_0 := by decide
  reducesTo_S2047x256_S_d0_1 := by decide
  h_S_ := by decide
  reducesTo_S256x256_S256_d1 := by decide
  bcast_S_S256 := by decide
  reducesTo_S256_S_d0 := by decide

instance : Subsingleton S_.Idx := ⟨fun a b => funext fun i => i.elim0⟩

section
variable [Facts]
variable (x : FVec Ideal S16x2048x256 .f32) (rp : FVec Ideal S2048x256 .f32) (wv : FVec Ideal S256x256 .f32)
  (wt : FVec Ideal S256x2048 .f32)

/-- Every reference point is at most the next one of its column. -/
theorem next_le {j : S_.Idx} (h : fn (F := Ideal) x rp wv wt j = 1#1) (p : Fin 256) (r : ℕ) (hr : r + 1 < 2048) :
    rp (ix2 ⟨r, by omega⟩ p) ≤ rp (ix2 ⟨r + 1, hr⟩ p) := by
  have h1 := (IntOp.andi_eq_one.1 h).1
  have h2 := Host.reduce_andi_all _ _ _ _ _ h1 (ix2 ⟨r, by omega⟩ p : S2047x256.Idx)
  have h3 : BitVec.ofBool (decide (rp (ix2 ⟨r, by omega⟩ p) ≤ rp (ix2 ⟨r + 1, hr⟩ p))) = 1#1 := by
    refine Eq.trans ?_ h2
    show _ = Ideal.cmp .ole _ _
    dsimp only
    rw [extractStridedSlice_apply _ _ _ _ (ix2 ⟨r, by omega⟩ p : S2048x256.Idx) ?_,
      extractStridedSlice_apply _ _ _ _ (ix2 ⟨r + 1, hr⟩ p : S2048x256.Idx) ?_]
    · rfl
    · intro a
      match a with
      | ⟨0, _⟩ => exact Nat.add_comm _ _
      | ⟨1, _⟩ => exact (Nat.zero_add _).symm
    · intro a
      match a with
      | ⟨0, _⟩ => exact (Nat.zero_add _).symm
      | ⟨1, _⟩ => exact (Nat.zero_add _).symm
  by_contra hc
  rw [decide_eq_false hc] at h3
  exact absurd h3 (by decide)

/-- Every column of the reference points ascends. -/
theorem columns_ascend {j : S_.Idx} (h : fn (F := Ideal) x rp wv wt j = 1#1) (p : Fin 256) :
    Monotone fun r : Fin 2048 => rp (ix2 r p) :=
  Fin.monotone_iff_le_succ (n := 2047) |>.2 fun i => next_le x rp wv wt h p i.val (by omega)

/-- The value the row sums start from is zero. -/
theorem zero_first (h : 0 < S_.numel) :
    (constant (F := Ideal) S_ .f32 0x00000000#32) (Shape.Idx.first h) = (0 : EReal) := Ideal.ofBits_zero_f32

/-- No projection row has a sum of squares that is zero. -/
theorem rows_nonzero {j : S_.Idx} (h : fn (F := Ideal) x rp wv wt j = 1#1) (p : Fin 256) :
    ∑ k : Fin 256, wv (ix2 p k) * wv (ix2 p k) ≠ 0 := by
  have h1 := (IntOp.andi_eq_one.1 h).2
  have h2 := Host.reduce_andi_all _ _ _ _ _ h1 (ix1 p : S256.Idx)
  intro hz
  have h3 : BitVec.ofBool (decide (∑ k : Fin 256, wv (ix2 p k) * wv (ix2 p k) ≠ 0)) = 1#1 := by
    refine Eq.trans ?_ h2
    show _ = Ideal.cmp .une _ _
    dsimp only
    rw [ValueIdx.hostReduceAdd_apply, zero_first, Ideal.hostReduceAdd_r2_a1, zero_add]
    show _ = BitVec.ofBool (decide (_ ≠ Ideal.ofBits .f32 0x00000000#32))
    rw [Ideal.ofBits_zero_f32]
    rfl
  rw [decide_eq_false (not_not.2 hz)] at h3
  exact absurd h3 (by decide)

end

end Cert.Pre_sorted_points_nonzero_rows

end
-- ==== Proof.Equation.lean ====
/-
  The equation: dividing a projection row by the root of its sum of squares is scaling it by the inverse root, wherever
  that sum is not zero; so the kernel and the reference project onto the same rows, sort the same columns and add up the
  same differences.
-/
module

public import proofs.«01_k».proof.Proof.OutputArray
public import proofs.«01_k».proof.Proof.ReferenceVals
public import proofs.«01_k».proof.Proof.Precondition

@[expose] public section

set_option maxRecDepth 16384

noncomputable section

namespace Cert.Equation

open Idealize.ShloMosaic Idealize.ShloMosaic.TcCoe
open Cert.SortedColumn
open Cert.KernelIdeal Cert.KernelIdeal.Gen
open Cert.ReferenceIdeal.Value (unitRows projections unitRows_apply projections_apply weighted taken order result_apply)

/-- A square of an extended real is at least zero. -/
theorem square_nonneg (a : EReal) : 0 ≤ a * a := by
  induction a with
  | bot => rw [EReal.bot_mul_bot]; exact le_top
  | top => rw [EReal.top_mul_top]; exact le_top
  | coe r => rw [← EReal.coe_mul]; exact EReal.coe_nonneg.2 (mul_self_nonneg r)

/-- Where `s` is positive, dividing by its root is multiplying by its inverse root. -/
theorem div_sqrt (w s : EReal) (hs : 0 ≤ s) (hz : s ≠ 0) : Ideal.div w (Ideal.sqrt s) = w * Ideal.rsqrt s := by
  induction s with
  | bot => exact absurd hs (by simp)
  | top =>
    show Ideal.div w ⊤ = w * 0
    unfold Ideal.div
    rw [if_neg EReal.top_ne_zero, EReal.inv_top]
  | coe r =>
    have hr : 0 < r := lt_of_le_of_ne (EReal.coe_nonneg.1 hs) fun h => hz (by rw [← h]; rfl)
    have hq : Real.sqrt r ≠ 0 := (Real.sqrt_pos.2 hr).ne'
    have h1 : Ideal.sqrt (r : EReal) = (Real.sqrt r : EReal) := if_neg (not_lt.2 hr.le)
    have h2 : Ideal.rsqrt (r : EReal) = ((Real.sqrt r)⁻¹ : ℝ) := (if_neg (not_lt.2 hr.le)).trans (if_neg hr.ne')
    rw [h1, h2, EReal.coe_inv]
    exact if_neg fun h => hq (EReal.coe_eq_zero.1 h)

/-- The rows the kernel projects onto are the reference's. -/
theorem unitRows_eq (wv : FVec Ideal S256x256 .f32) (p d : Fin 256)
    (hz : ∑ k : Fin 256, wv (ix2 p k) * wv (ix2 p k) ≠ 0) : unitRows wv (ix2 p d) = scaledRow wv p d := by
  rw [unitRows_apply]
  exact div_sqrt _ _ (Finset.sum_nonneg fun k _ => square_nonneg _) hz

section
variable (x : FVec Ideal S16x2048x256 .f32) (rp : FVec Ideal S2048x256 .f32) (wv : FVec Ideal S256x256 .f32)
  (wt : FVec Ideal S256x2048 .f32)

/-- A batch's projections onto one row, as the kernel computes them. -/
def projected (b : Fin 16) (p : Fin 256) (k : Fin 2048) : EReal := ∑ d : Fin 256, x (ix3 b k d) * scaledRow wv p d

/-- The common value: the weighted sum of the differences between the reference points and the sorted projections. -/
def value (b : Fin 16) (p : Fin 256) : EReal :=
  ∑ r : Fin 2048, wt (ix2 p r) * (rp (ix2 r p) - projected x wv b p (source (projected x wv b p) r))

/-- The reference's result, entry by entry. -/
theorem reference_value (hm : ∀ p : Fin 256, Monotone fun r : Fin 2048 => rp (ix2 r p))
    (hz : ∀ p : Fin 256, ∑ k : Fin 256, wv (ix2 p k) * wv (ix2 p k) ≠ 0) (b : Fin 16) (p : Fin 256) :
    weighted rp wt (taken (Host.sort Cert.ReferenceIdeal.S16x2048x256 1 Cert.ReferenceIdeal.comparator_f32_d1 (projections x wv)) (order rp)) (ix2 b p)
      = value x rp wv wt b p := by
  have hp : ∀ k : Fin 2048, projections x wv (ix3 b k p) = projected x wv b p k := fun k => by
    rw [projections_apply]
    exact Finset.sum_congr rfl fun d _ => by rw [unitRows_eq wv p d (hz p)]
  have hc : Cert.ReferenceIdeal.Value.column (projections x wv) b p = projected x wv b p := funext hp
  rw [result_apply x rp wv wt hm b p, hc]
  exact Finset.sum_congr rfl fun r _ => by rw [hp]

/-- What the body leaves in the output block, of blocks that hold a batch's samples, the reference points, the projection
rows and the transposed weights. -/
theorem body_value (x' : FVec Ideal S1x2048x256 .f32) (wt' : FVec Ideal S2048x256 .f32) (b : Fin 16)
    (hx : ∀ (r : Fin 2048) (d : Fin 256), x' (ix3 0 r d) = x (ix3 b r d))
    (hw : ∀ (r : Fin 2048) (p : Fin 256), wt' (ix2 r p) = wt (ix2 p r)) (p : Fin 256) :
    bodyVals (F := Ideal) wv x' rp wt' (ix3 0 0 p) = value x rp wv wt b p := by
  have hk : (fun k : Fin 2048 => ∑ d : Fin 256, x' (ix3 0 k d) * scaledRow wv p d) = projected x wv b p :=
    funext fun k => Finset.sum_congr rfl fun d _ => by rw [hx]
  rw [bodyVals_apply, hk]
  exact Finset.sum_congr rfl fun r _ => congrArg₂ (· * ·) (hw r p) (congrArg (rp (ix2 r p) - ·) (congrFun hk _))
end

section
variable (m : (ℓ : Loc nD τ sig) → Buf (Elt Ideal) ℓ)

/-- The kernel's output block at a batch's point, entry by entry. -/
theorem outBlock_value (c : Dev nD) (b : Fin 16) (p : Fin 256) :
    outBlock m c ⟨b.val, b.isLt⟩ (ix3 0 0 p)
      = value (batchArg m c) (pointsArg m c) (rowsArg m c) (weightArg m c) b p := by
  have h1 : (iblk m c 1 ⟨b.val, b.isLt⟩ : FVec Ideal S2048x256 .f32) = pointsArg m c := funext fun j => by
    rw [eq_ix2 j]; exact block1 m c _ _ _
  have h2 : (iblk m c 2 ⟨b.val, b.isLt⟩ : FVec Ideal S256x256 .f32) = rowsArg m c := funext fun j => by
    rw [eq_ix2 j]; exact block2 m c _ _ _
  unfold outBlock
  rw [h1, h2]
  exact body_value _ _ _ _ _ _ b (block0 m c _ b rfl) (block3 m c _) p

/-- The kernel's result, entry by entry. -/
theorem kernel_value (c : Dev nD) (b : Fin 16) (p : Fin 256) :
    (Pipeline.afterTail₀ cfgs (dats m) 0 (V0 m) [hostOps1] c main_v0 : FVec Ideal S16x256 .f32) (ix2 b p)
      = value (batchArg m c) (pointsArg m c) (rowsArg m c) (weightArg m c) b p :=
  (result_main m c b p).trans (outBlock_value m c b p)

end

end Cert.Equation

end
-- ==== Proof.lean ====
/-
  The proof of `Cert.Claim`: the two kernels and the reference run to their end with their arguments kept and every
  counter at zero; the idealisation rewrites nothing; and where the reference points ascend and no projection row
  vanishes, kernel and reference leave the same result.
-/
module

public import proofs.«01_k».proof.Defs
public import proofs.«01_k».proof.Proof.KernelLaunch
public import proofs.«01_k».proof.Proof.Equation

@[expose] public section

set_option maxRecDepth 16384

noncomputable section

namespace Cert.Proof

open Idealize.ShloMosaic Idealize.ShloMosaic.TcCoe Idealize.SL.Sem

/-- Every run of the reference ends, with the arguments as they were and every counter at zero. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The two results agree, whenever the precondition holds of the kernel's memory and the reference is given the
kernel's arguments. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_sorted_points_nonzero_rows
      (hPre_sorted_points_nonzero_rows := Cert.Pre_sorted_points_nonzero_rows.facts) m)
    (c : Dev Cert.KernelIdeal.nD)
    (h0 : m' ((c.tc : Thread Cert.ReferenceIdeal.nD Cert.ReferenceIdeal.τ).loc Cert.ReferenceIdeal.main_arg0) = Cert.KernelIdeal.Gen.batchArg m c)
    (h1 : m' ((c.tc : Thread Cert.ReferenceIdeal.nD Cert.ReferenceIdeal.τ).loc Cert.ReferenceIdeal.main_arg1) = Cert.KernelIdeal.Gen.pointsArg m c)
    (h2 : m' ((c.tc : Thread Cert.ReferenceIdeal.nD Cert.ReferenceIdeal.τ).loc Cert.ReferenceIdeal.main_arg2) = Cert.KernelIdeal.Gen.rowsArg m c)
    (h3 : m' ((c.tc : Thread Cert.ReferenceIdeal.nD Cert.ReferenceIdeal.τ).loc Cert.ReferenceIdeal.main_arg3) = Cert.KernelIdeal.Gen.weightArg m c) :
    (Cert.ReferenceIdeal.Value.res_main_v17 (F := Ideal) m' c : FVec Ideal Cert.KernelIdeal.S16x256 .f32)
      = Pipeline.afterTail₀ Cert.KernelIdeal.cfgs (Cert.KernelIdeal.Gen.dats m) 0 (Cert.KernelIdeal.Gen.V0 m)
          [Cert.KernelIdeal.Gen.hostOps1] c Cert.KernelIdeal.main_v0 := by
  have hp := congrFun (hpre c) (fun i => i.elim0)
  rw [Cert.ReferenceIdeal.Value.res_eq, h0, h1, h2, h3]
  funext i
  rw [eq_ix2 i]
  exact (Cert.Equation.reference_value _ _ _ _
      (@Cert.Pre_sorted_points_nonzero_rows.columns_ascend Cert.Pre_sorted_points_nonzero_rows.facts _ _ _ _ _ hp)
      (@Cert.Pre_sorted_points_nonzero_rows.rows_nonzero Cert.Pre_sorted_points_nonzero_rows.facts _ _ _ _ _ hp) _ _).trans
    (Cert.Equation.kernel_value m c _ _).symm

/-- Kernel and reference leave the same result, as arrays of extended reals. -/
theorem same_result : Cert.algebraic_KernelIdeal_ReferenceIdeal_pre_sorted_points_nonzero_rows
    (hKernelIdeal := Cert.KernelIdeal.Gen.facts) (hReferenceIdeal := Cert.ReferenceIdeal.Gen.facts)
    (hPre_sorted_points_nonzero_rows := Cert.Pre_sorted_points_nonzero_rows.facts) :=
  fun m g m' g' hpre hargs =>
    ⟨fun c => Pipeline.afterTail₀ Cert.KernelIdeal.cfgs (Cert.KernelIdeal.Gen.dats m) 0 (Cert.KernelIdeal.Gen.V0 m)
        [Cert.KernelIdeal.Gen.hostOps1] c Cert.KernelIdeal.main_v0,
      (θ_run _ _ _).mono (fun r h c =>
        ⟨(h.1 c).2 Cert.KernelIdeal.main_v0 (Pipeline.mem_restRefs_of Cert.KernelIdeal.main_v0 (by decide) (by decide)),
          Cert.KernelIdeal.Gen.args_kept m r h.1 c⟩) (Cert.KernelIdeal.Gen.run_main m g),
      (θ_run _ _ _).mono (fun r h c =>
        ⟨(h c).1.trans (results_agree m m' hpre c (hargs c).1 (hargs c).2.1 (hargs c).2.2.1 (hargs c).2.2.2), (h c).2⟩)
        (Cert.ReferenceIdeal.Value.run m' g')⟩

/-- The claim. -/
theorem claim : Cert.Claim :=
  ⟨Cert.Kernel.Gen.facts, Cert.KernelIdeal.Gen.facts, Cert.ReferenceIdeal.Gen.facts, Cert.Pre_sorted_points_nonzero_rows.facts,
    fun m g _ => Cert.Kernel.Gen.frame_run m g, fun m g _ => Cert.KernelIdeal.Gen.frame_run m g,
    fun m g _ => Cert.KernelIdeal.Gen.frame_run m g, reference_frame, fun m g _ => reference_frame m g trivial,
    trivial, same_result⟩

end Cert.Proof

end
